-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_statistics_finite [hPre_statistics_finite : Cert.Pre_statistics_finite.Facts] (m : (ℓ : Loc Cert.KernelIdeal.nD Cert.KernelIdeal.τ Cert.KernelIdeal.sig) → Buf (Elt Ideal) ℓ) : Prop :=
  ∀ c : Dev Cert.KernelIdeal.nD,
    (Cert.Pre_statistics_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_statistics_finite [hPre_statistics_finite : Cert.Pre_statistics_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_statistics_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_statistics_finite [hKernelIdeal : Cert.KernelIdeal.Facts] [hPre_statistics_finite : Cert.Pre_statistics_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_statistics_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_statistics_finite [hReferenceIdeal : Cert.ReferenceIdeal.Facts] [hPre_statistics_finite : Cert.Pre_statistics_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_statistics_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_statistics_finite [hKernelIdeal : Cert.KernelIdeal.Facts] [hReferenceIdeal : Cert.ReferenceIdeal.Facts] [hPre_statistics_finite : Cert.Pre_statistics_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_statistics_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_statistics_finite : Cert.Pre_statistics_finite.Facts),
    quiescent_Kernel (hKernel := hKernel)
    ∧ quiescent_KernelIdeal (hKernelIdeal := hKernelIdeal)
    ∧ quiescent_KernelIdeal_pre_statistics_finite (hKernelIdeal := hKernelIdeal) (hPre_statistics_finite := hPre_statistics_finite)
    ∧ quiescent_ReferenceIdeal (hReferenceIdeal := hReferenceIdeal)
    ∧ quiescent_ReferenceIdeal_pre_statistics_finite (hReferenceIdeal := hReferenceIdeal) (hPre_statistics_finite := hPre_statistics_finite)
    ∧ preserves_Kernel_KernelIdeal
    ∧ algebraic_KernelIdeal_ReferenceIdeal_pre_statistics_finite (hKernelIdeal := hKernelIdeal) (hReferenceIdeal := hReferenceIdeal) (hPre_statistics_finite := hPre_statistics_finite)
-- ==== Pre_statistics_finite.lean ====
abbrev S8x384x32x32 : Shape := ⟨4, ![8, 384, 32, 32]⟩
abbrev S1024x384x3x3 : Shape := ⟨4, ![1024, 384, 3, 3]⟩
abbrev S1024 : Shape := ⟨1, ![1024]⟩
abbrev S425x1024x1x1 : Shape := ⟨4, ![425, 1024, 1, 1]⟩
abbrev S425 : Shape := ⟨1, ![425]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S8x384x32x32 .f32) (main_arg1 : FVec F S1024x384x3x3 .f32) (main_arg2 : FVec F S1024 .f32) (main_arg3 : FVec F S1024 .f32) (main_arg4 : FVec F S1024 .f32) (main_arg5 : FVec F S1024 .f32) (main_arg6 : FVec F S425x1024x1x1 .f32) (main_arg7 : FVec F S425 .f32) : IVec S1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg4
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1024 1 := andi main_v2 main_v5
  let main_cst_1 : FVec F S_ .f32 := constant S_ .f32 0x3727C5AC#32
  let main_v7 : FVec F S1024 .f32 := broadcastInDim S1024 ![] bcast_S_S1024 main_cst_1
  let main_v8 : FVec F S1024 .f32 := addf main_arg5 main_v7
  let main_cst_2 : FVec F S_ .f32 := constant S_ .f32 0x00000000#32
  let main_v9 : FVec F S1024 .f32 := broadcastInDim S1024 ![] bcast_S_S1024 main_cst_2
  let main_v10 : IVec S1024 1 := cmpf .ogt main_v8 main_v9
  let main_v11 : IVec S1024 1 := andi main_v6 main_v10
  main_v11
-- ==== Kernel.lean ====
abbrev S8x384x32x32 : Shape := ⟨4, ![8, 384, 32, 32]⟩
abbrev S1024x384x3x3 : Shape := ⟨4, ![1024, 384, 3, 3]⟩
abbrev S1024 : Shape := ⟨1, ![1024]⟩
abbrev S425x1024x1x1 : Shape := ⟨4, ![425, 1024, 1, 1]⟩
abbrev S425 : Shape := ⟨1, ![425]⟩
abbrev S_ : Shape := ⟨0, ![]⟩
abbrev S3x3x384x1024 : Shape := ⟨4, ![3, 3, 384, 1024]⟩
abbrev S3456x1024 : Shape := ⟨2, ![3456, 1024]⟩
abbrev S425x1024 : Shape := ⟨2, ![425, 1024]⟩
abbrev S1024x425 : Shape := ⟨2, ![1024, 425]⟩
abbrev S8x32x32x384 : Shape := ⟨4, ![8, 32, 32, 384]⟩
abbrev S8x1024x384 : Shape := ⟨3, ![8, 1024, 384]⟩
abbrev S1x1024 : Shape := ⟨2, ![1, 1024]⟩
abbrev S1x425 : Shape := ⟨2, ![1, 425]⟩
abbrev S8x1024x425 : Shape := ⟨3, ![8, 1024, 425]⟩
abbrev S1x1024x384 : Shape := ⟨3, ![1, 1024, 384]⟩
abbrev S1x1024x425 : Shape := ⟨3, ![1, 1024, 425]⟩
abbrev S1152x1152 : Shape := ⟨2, ![1152, 1152]⟩
abbrev S64x384 : Shape := ⟨2, ![64, 384]⟩
abbrev S1024x384 : Shape := ⟨2, ![1024, 384]⟩
abbrev S1152x1 : Shape := ⟨2, ![1152, 1]⟩
abbrev S1152x384 : Shape := ⟨2, ![1152, 384]⟩
abbrev S1024x1152 : Shape := ⟨2, ![1024, 1152]⟩
abbrev S1024x3456 : Shape := ⟨2, ![1024, 3456]⟩
abbrev S1024x1024 : Shape := ⟨2, ![1024, 1024]⟩
abbrev S8x32x32x425 : Shape := ⟨4, ![8, 32, 32, 425]⟩

abbrev nBuf : Space → Nat
  | .hbm => 29
  | .vmem => 10
  | .smem => 0
  | _ => 0

abbrev bufTy : (tb : Table) → Fin (tcTables nBuf tb) → BufTy
  | .hbm, ⟨0, _⟩ => ⟨S8x384x32x32, .f32⟩
  | .hbm, ⟨1, _⟩ => ⟨S1024x384x3x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S425x1024x1x1, .f32⟩
  | .hbm, ⟨7, _⟩ => ⟨S425, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x384x3x3, .bf16⟩
  | .hbm, ⟨16, _⟩ => ⟨S3x3x384x1024, .bf16⟩
  | .hbm, ⟨17, _⟩ => ⟨S3456x1024, .bf16⟩
  | .hbm, ⟨18, _⟩ => ⟨S425x1024, .f32⟩
  | .hbm, ⟨19, _⟩ => ⟨S1024x425, .f32⟩
  | .hbm, ⟨20, _⟩ => ⟨S1024x425, .bf16⟩
  | .hbm, ⟨21, _⟩ => ⟨S8x384x32x32, .bf16⟩
  | .hbm, ⟨22, _⟩ => ⟨S8x32x32x384, .bf16⟩
  | .hbm, ⟨23, _⟩ => ⟨S8x1024x384, .bf16⟩
  | .hbm, ⟨24, _⟩ => ⟨S1x1024, .f32⟩
  | .hbm, ⟨25, _⟩ => ⟨S1x1024, .f32⟩
  | .hbm, ⟨26, _⟩ => ⟨S1x425, .f32⟩
  | .hbm, ⟨27, _⟩ => ⟨S8x1024x425, .f32⟩
  | .hbm, ⟨28, _⟩ => ⟨S8x32x32x425, .f32⟩
  | .local _ .vmem, ⟨0, _⟩ => ⟨S1x1024x384, .bf16⟩
  | .local _ .vmem, ⟨1, _⟩ => ⟨S1x1024x384, .bf16⟩
  | .local _ .vmem, ⟨2, _⟩ => ⟨S3456x1024, .bf16⟩
  | .local _ .vmem, ⟨3, _⟩ => ⟨S1x1024, .f32⟩
  | .local _ .vmem, ⟨4, _⟩ => ⟨S1x1024, .f32⟩
  | .local _ .vmem, ⟨5, _⟩ => ⟨S1024x425, .bf16⟩
  | .local _ .vmem, ⟨6, _⟩ => ⟨S1x425, .f32⟩
  | .local _ .vmem, ⟨7, _⟩ => ⟨S1x1024x425, .f32⟩
  | .local _ .vmem, ⟨8, _⟩ => ⟨S1x1024x425, .f32⟩
  | .local _ .vmem, ⟨9, _⟩ => ⟨S1152x1152, .bf16⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x425 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x425 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x425 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x384x32x32 : Shape := ⟨4, ![8, 384, 32, 32]⟩
abbrev S1024x384x3x3 : Shape := ⟨4, ![1024, 384, 3, 3]⟩
abbrev S1024 : Shape := ⟨1, ![1024]⟩
abbrev S425x1024x1x1 : Shape := ⟨4, ![425, 1024, 1, 1]⟩
abbrev S425 : Shape := ⟨1, ![425]⟩
abbrev S_ : Shape := ⟨0, ![]⟩
abbrev S8x384x34x34 : Shape := ⟨4, ![8, 384, 34, 34]⟩
abbrev S8x1024x32x32 : Shape := ⟨4, ![8, 1024, 32, 32]⟩
abbrev S1024x384x1x1 : Shape := ⟨4, ![1024, 384, 1, 1]⟩
abbrev S1024x384 : Shape := ⟨2, ![1024, 384]⟩
abbrev S1024x8x32x32 : Shape := ⟨4, ![1024, 8, 32, 32]⟩
abbrev S1x1024x1x1 : Shape := ⟨4, ![1, 1024, 1, 1]⟩
abbrev S425x1024 : Shape := ⟨2, ![425, 1024]⟩
abbrev S425x8x32x32 : Shape := ⟨4, ![425, 8, 32, 32]⟩
abbrev S8x425x32x32 : Shape := ⟨4, ![8, 425, 32, 32]⟩
abbrev S1x425x1x1 : Shape := ⟨4, ![1, 425, 1, 1]⟩
abbrev S8x32x32x425 : Shape := ⟨4, ![8, 32, 32, 425]⟩

abbrev nBuf : Space → Nat
  | .hbm => 97
  | .vmem => 0
  | .smem => 0
  | _ => 0

abbrev bufTy : (tb : Table) → Fin (tcTables nBuf tb) → BufTy
  | .hbm, ⟨0, _⟩ => ⟨S8x384x32x32, .f32⟩
  | .hbm, ⟨1, _⟩ => ⟨S1024x384x3x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S425x1024x1x1, .f32⟩
  | .hbm, ⟨7, _⟩ => ⟨S425, .f32⟩
  | .hbm, ⟨8, _⟩ => ⟨S_, .i32⟩
  | .hbm, ⟨9, _⟩ => ⟨S_, .f32⟩
  | .hbm, ⟨10, _⟩ => ⟨S8x384x34x34, .f32⟩
  | .hbm, ⟨11, _⟩ => ⟨S_, .f32⟩
  | .hbm, ⟨12, _⟩ => ⟨S8x1024x32x32, .f32⟩
  | .hbm, ⟨13, _⟩ => ⟨S8x384x32x32, .f32⟩
  | .hbm, ⟨14, _⟩ => ⟨S1024x384x1x1, .f32⟩
  | .hbm, ⟨15, _⟩ => ⟨S1024x384, .f32⟩
  | .hbm, ⟨16, _⟩ => ⟨S1024x8x32x32, .f32⟩
  | .hbm, ⟨17, _⟩ => ⟨S8x1024x32x32, .f32⟩
  | .hbm, ⟨18, _⟩ => ⟨S8x1024x32x32, .f32⟩
  | .hbm, ⟨19, _⟩ => ⟨S8x384x32x32, .f32⟩
  | .hbm, ⟨20, _⟩ => ⟨S1024x384x1x1, .f32⟩
  | .hbm, ⟨21, _⟩ => ⟨S1024x384, .f32⟩
  | .hbm, ⟨22, _⟩ => ⟨S1024x8x32x32, .f32⟩
  | .hbm, ⟨23, _⟩ => ⟨S8x1024x32x32, .f32⟩
  | .hbm, ⟨24, _⟩ => ⟨S8x1024x32x32, .f32⟩
  | .hbm, ⟨25, _⟩ => ⟨S8x384x32x32, .f32⟩
  | .hbm, ⟨26, _⟩ => ⟨S1024x384x1x1, .f32⟩
  | .hbm, ⟨27, _⟩ => ⟨S1024x384, .f32⟩
  | .hbm, ⟨28, _⟩ => ⟨S1024x8x32x32, .f32⟩
  | .hbm, ⟨29, _⟩ => ⟨S8x1024x32x32, .f32⟩
  | .hbm, ⟨30, _⟩ => ⟨S8x1024x32x32, .f32⟩
  | .hbm, ⟨31, _⟩ => ⟨S8x384x32x32, .f32⟩
  | .hbm, ⟨32, _⟩ => ⟨S1024x384x1x1, .f32⟩
  | .hbm, ⟨33, _⟩ => ⟨S1024x384, .f32⟩
  | .hbm, ⟨34, _⟩ => ⟨S1024x8x32x32, .f32⟩
  | .hbm, ⟨35, _⟩ => ⟨S8x1024x32x32, .f32⟩
  | .hbm, ⟨36, _⟩ => ⟨S8x1024x32x32, .f32⟩
  | .hbm, ⟨37, _⟩ => ⟨S8x384x32x32, .f32⟩
  | .hbm, ⟨38, _⟩ => ⟨S1024x384x1x1, .f32⟩
  | .hbm, ⟨39, _⟩ => ⟨S1024x384, .f32⟩
  | .hbm, ⟨40, _⟩ => ⟨S1024x8x32x32, .f32⟩
  | .hbm, ⟨41, _⟩ => ⟨S8x1024x32x32, .f32⟩
  | .hbm, ⟨42, _⟩ => ⟨S8x1024x32x32, .f32⟩
  | .hbm, ⟨43, _⟩ => ⟨S8x384x32x32, .f32⟩
  | .hbm, ⟨44, _⟩ => ⟨S1024x384x1x1, .f32⟩
  | .hbm, ⟨45, _⟩ => ⟨S1024x384, .f32⟩
  | .hbm, ⟨46, _⟩ => ⟨S1024x8x32x32, .f32⟩
  | .hbm, ⟨47, _⟩ => ⟨S8x1024x32x32, .f32⟩
  | .hbm, ⟨48, _⟩ => ⟨S8x1024x32x32, .f32⟩
  | .hbm, ⟨49, _⟩ => ⟨S8x384x32x32, .f32⟩
  | .hbm, ⟨50, _⟩ => ⟨S1024x384x1x1, .f32⟩
  | .hbm, ⟨51, _⟩ => ⟨S1024x384, .f32⟩
  | .hbm, ⟨52, _⟩ => ⟨S1024x8x32x32, .f32⟩
  | .hbm, ⟨53, _⟩ => ⟨S8x1024x32x32, .f32⟩
  | .hbm, ⟨54, _⟩ => ⟨S8x1024x32x32, .f32⟩
  | .hbm, ⟨55, _⟩ => ⟨S8x384x32x32, .f32⟩
  | .hbm, ⟨56, _⟩ => ⟨S1024x384x1x1, .f32⟩
  | .hbm, ⟨57, _⟩ => ⟨S1024x384, .f32⟩
  | .hbm, ⟨58, _⟩ => ⟨S1024x8x32x32, .f32⟩
  | .hbm, ⟨59, _⟩ => ⟨S8x1024x32x32, .f32⟩
  | .hbm, ⟨60, _⟩ => ⟨S8x1024x32x32, .f32⟩
  | .hbm, ⟨61, _⟩ => ⟨S8x384x32x32, .f32⟩
  | .hbm, ⟨62, _⟩ => ⟨S1024x384x1x1, .f32⟩
  | .hbm, ⟨63, _⟩ => ⟨S1024x384, .f32⟩
  | .hbm, ⟨64, _⟩ => ⟨S1024x8x32x32, .f32⟩
  | .hbm, ⟨65, _⟩ => ⟨S8x1024x32x32, .f32⟩
  | .hbm, ⟨66, _⟩ => ⟨S8x1024x32x32, .f32⟩
  | .hbm, ⟨67, _⟩ => ⟨S1x1024x1x1, .f32⟩
  | .hbm, ⟨68, _⟩ => ⟨S8x1024x32x32, .f32⟩
  | .hbm, ⟨69, _⟩ => ⟨S8x1024x32x32, .f32⟩
  | .hbm, ⟨70, _⟩ => ⟨S1x1024x1x1, .f32⟩
  | .hbm, ⟨71, _⟩ => ⟨S_, .f32⟩
  | .hbm, ⟨72, _⟩ => ⟨S1x1024x1x1, .f32⟩
  | .hbm, ⟨73, _⟩ => ⟨S1x1024x1x1, .f32⟩
  | .hbm, ⟨74, _⟩ => ⟨S1x1024x1x1, .f32⟩
  | .hbm, ⟨75, _⟩ => ⟨S8x1024x32x32, .f32⟩
  | .hbm, ⟨76, _⟩ => ⟨S8x1024x32x32, .f32⟩
  | .hbm, ⟨77, _⟩ => ⟨S1x1024x1x1, .f32⟩
  | .hbm, ⟨78, _⟩ => ⟨S8x1024x32x32, .f32⟩
  | .hbm, ⟨79, _⟩ => ⟨S8x1024x32x32, .f32⟩
  | .hbm, ⟨80, _⟩ => ⟨S1x1024x1x1, .f32⟩
  | .hbm, ⟨81, _⟩ => ⟨S8x1024x32x32, .f32⟩
  | .hbm, ⟨82, _⟩ => ⟨S8x1024x32x32, .f32⟩
  | .hbm, ⟨83, _⟩ => ⟨S_, .f32⟩
  | .hbm, ⟨84, _⟩ => ⟨S8x1024x32x32, .f32⟩
  | .hbm, ⟨85, _⟩ => ⟨S8x1024x32x32, .i1⟩
  | .hbm, ⟨86, _⟩ => ⟨S_, .f32⟩
  | .hbm, ⟨87, _⟩ => ⟨S8x1024x32x32, .f32⟩
  | .hbm, ⟨88, _⟩ => ⟨S8x1024x32x32, .f32⟩
  | .hbm, ⟨89, _⟩ => ⟨S8x1024x32x32, .f32⟩
  | .hbm, ⟨90, _⟩ => ⟨S425x1024, .f32⟩
  | .hbm, ⟨91, _⟩ => ⟨S425x8x32x32, .f32⟩
  | .hbm, ⟨92, _⟩ => ⟨S8x425x32x32, .f32⟩
  | .hbm, ⟨93, _⟩ => ⟨S1x425x1x1, .f32⟩
  | .hbm, ⟨94, _⟩ => ⟨S8x425x32x32, .f32⟩
  | .hbm, ⟨95, _⟩ => ⟨S8x425x32x32, .f32⟩
  | .hbm, ⟨96, _⟩ => ⟨S8x32x32x425, .f32⟩
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_0 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_1 : Ref sig .tc := ⟨.hbm, 83, rfl⟩
abbrev main_v71 : Ref sig .tc := ⟨.hbm, 84, rfl⟩
abbrev main_v72 : Ref sig .tc := ⟨.hbm, 85, rfl⟩
abbrev main_cst_2 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩

abbrev nD : Nat := 1
abbrev τ : Topo := Topo.v7x

variable {F : FTy → Type} [FloatOps F]
-- ==== Proof.Im2col.lean ====
/- The im2col buffer as a function of one image's block, and the stored values that build it: the middle columns hold the
   image's rows between zero guard rows, the left columns the middle shifted down by one row (its first column of pixels
   zeroed), the right columns the middle shifted up by one row (its last column of pixels zeroed). -/
module

public import proofs.«01_k».proof.Proof.Gen.KernelIdeal.Frame
public import Idealize.ShloMosaic.Lib.Pipeline.Value
public import Idealize.ShloMosaic.Lib.ValueIdx
public import Idealize.ShloMosaic.Lib.KernelVsHost

@[expose] public section

noncomputable section

namespace Cert.KernelIdeal.Gen

open Idealize.ShloMosaic Idealize.ShloMosaic.TcCoe Idealize.SL.Sem
open Idealize.ShloMosaic.ValueIdx Idealize.ShloMosaic.StableHlo

variable {F : FTy → Type} [FloatOps F]

/-- The bf16 zero the kernel writes into guard rows and masked pixels. -/
def bzero : F .bf16 := Scalar.ofBits .bf16 0x0000#16

/-- The middle columns: rows 64 to 1087 are the image's 1024 pixel rows, every other row is zero. -/
def midAt (x0 : Vec F S1x1024x384 .bf16) (r c : ℕ) : F .bf16 :=
  if h : 64 ≤ r ∧ r < 1088 ∧ c < 384 then
    x0 (ix3 (0 : Fin 1) (⟨r - 64, by omega⟩ : Fin 1024) (⟨c, h.2.2⟩ : Fin 384))
  else bzero

/-- The whole buffer: left, middle and right columns. -/
def xcAt (x0 : Vec F S1x1024x384 .bf16) (r k : ℕ) : F .bf16 :=
  if k < 384 then (if r % 32 = 0 then bzero else midAt x0 ((r + 1151) % 1152) k)
  else if k < 768 then midAt x0 r (k - 384)
  else if r % 32 = 31 then bzero else midAt x0 ((r + 1) % 1152) (k - 768)

/-- The buffer as an array. -/
def xc (x0 : Vec F S1x1024x384 .bf16) : Vec F S1152x1152 .bf16 := fun i => xcAt x0 (i 0).val (i 1).val

/-- The middle columns as an array. -/
def mid (x0 : Vec F S1x1024x384 .bf16) : Vec F S1152x384 .bf16 := fun i => midAt x0 (i 0).val (i 1).val

/-- The remainder by 32 of a word, as the kernel computes it: the machine's remainder, moved up by 32 where it is
    negative. -/
def rem32 (w : BitVec 32) : BitVec 32 :=
  let a := IntOp.remsi .vector w 32#32
  Scalar.select ((IntOp.cmpi .slt a 0#32 ^^^ Scalar.cmpi .slt 32#32 0#32) &&& IntOp.cmpi .ne a 0#32) (a + 32#32) a

/-- The left columns' mask at a row: true at the multiples of 32. -/
theorem left_mask (r : Fin 1152) :
    IntOp.cmpi .eq (rem32 (BitVec.ofNat 32 r.val)) 0#32 = if r.val % 32 = 0 then 1#1 else 0#1 := by
  revert r; decide +kernel

/-- The right columns' mask at a row: true one row below a multiple of 32. -/
theorem right_mask (r : Fin 1152) :
    IntOp.cmpi .eq (rem32 (BitVec.ofNat 32 r.val)) 31#32 = if r.val % 32 = 31 then 1#1 else 0#1 := by
  revert r; decide +kernel

/-- The block stored into the middle columns is the image's block without its unit axis. -/
theorem pay4_apply (v : Vec F S1x1024x384 .bf16) (i : S1024x384.Idx) :
    k0_pay4 v i = v (ix3 (0 : Fin 1) (⟨(i 0).val, (i 0).isLt⟩ : Fin 1024) (⟨(i 1).val, (i 1).isLt⟩ : Fin 384)) := by
  unfold k0_pay4
  rw [shapeCast_self]
  exact shapeCast_apply v shapeCasts_S1x1024x384_S1024x384 i _ (by
    rw [Shape.rowMajor_val_three, Shape.rowMajor_val_two]
    show (0 * 1024 + (i 0).val) * 384 + (i 1).val = (i 0).val * 384 + (i 1).val
    omega)

/-- The value stored into the left columns: the middle's row above, zero at the multiples of 32. -/
theorem pay5_apply (v : Vec F S1152x384 .bf16) (i k : S1152x384.Idx)
    (hk0 : (k 0).val = ((i 0).val + 1151) % 1152) (hk1 : (k 1).val = (i 1).val) :
    k0_pay5 v i = if (i 0).val % 32 = 0 then bzero else v k := by
  unfold k0_pay5
  rw [shapeCast_self, select_apply, shapeCast_self]
  rw [dynamicRotate_apply 0 1#32 v rotates_S1152x384_d0 i k (fun b => match b with
    | ⟨0, _⟩ => hk0.trans (if_pos (Fin.ext rfl)).symm
    | ⟨1, _⟩ => hk1.trans (if_neg (Fin.ne_of_val_ne Nat.one_ne_zero)).symm)]
  rw [broadcastTo_apply _ broadcasts_S1152x1_S1152x384 i (ix2 (⟨(i 0).val, (i 0).isLt⟩ : Fin 1152) (0 : Fin 1)) (fun a => match a with
    | ⟨0, _⟩ => rfl
    | ⟨1, _⟩ => rfl)]
  rw [show ∀ j : S1152x1.Idx, (cmpi .eq _ _ : IVec S1152x1 1) j
      = IntOp.cmpi .eq (rem32 (iota .tc S1152x1 32 [0] iota_S1152x1_d0_w32 j)) 0#32 from fun _ => rfl]
  rw [iota_single_apply]
  refine (congrArg (fun b => Scalar.select b _ _) (left_mask ⟨(i 0).val, (i 0).isLt⟩)).trans ?_
  by_cases h : (i 0).val % 32 = 0
  · rw [if_pos h, if_pos h]; rfl
  · rw [if_neg h, if_neg h]; rfl

/-- The value stored into the right columns: the middle's row below, zero one row below a multiple of 32. -/
theorem pay6_apply (v : Vec F S1152x384 .bf16) (i k : S1152x384.Idx)
    (hk0 : (k 0).val = ((i 0).val + 1) % 1152) (hk1 : (k 1).val = (i 1).val) :
    k0_pay6 (iota .tc S1152x1 32 [0] iota_S1152x1_d0_w32) v i = if (i 0).val % 32 = 31 then bzero else v k := by
  unfold k0_pay6
  rw [shapeCast_self, select_apply, shapeCast_self]
  rw [dynamicRotate_apply 0 1151#32 v rotates_S1152x384_d0 i k (fun b => match b with
    | ⟨0, _⟩ => by
        refine (hk0.trans ?_).trans (if_pos (Fin.ext rfl)).symm
        show ((i 0).val + 1) % 1152 = ((i 0).val + 1152 - 1151 % 1152) % 1152
        omega
    | ⟨1, _⟩ => hk1.trans (if_neg (Fin.ne_of_val_ne Nat.one_ne_zero)).symm)]
  rw [broadcastTo_apply _ broadcasts_S1152x1_S1152x384 i (ix2 (⟨(i 0).val, (i 0).isLt⟩ : Fin 1152) (0 : Fin 1)) (fun a => match a with
    | ⟨0, _⟩ => rfl
    | ⟨1, _⟩ => rfl)]
  rw [show ∀ j : S1152x1.Idx, (cmpi .eq _ _ : IVec S1152x1 1) j
      = IntOp.cmpi .eq (rem32 (iota .tc S1152x1 32 [0] iota_S1152x1_d0_w32 j)) 31#32 from fun _ => rfl]
  rw [iota_single_apply]
  refine (congrArg (fun b => Scalar.select b _ _) (right_mask ⟨(i 0).val, (i 0).isLt⟩)).trans ?_
  by_cases h : (i 0).val % 32 = 31
  · rw [if_pos h, if_pos h]; rfl
  · rw [if_neg h, if_neg h]; rfl

end Cert.KernelIdeal.Gen

end
-- ==== Proof.Buffer.lean ====
/- What a grid point leaves in the im2col buffer and in the output block. At the first point the guard rows are zeroed; at
   every later point they are zero already; so after every point the buffer is `xc` of the point's image block, and the
   output block is the two products, with scale, biases and leaky ReLU, of that buffer. -/
module

public import proofs.«01_k».proof.Proof.Im2col
public import Idealize.ShloMosaic.Lib.WritesUnit
public import Idealize.ShloMosaic.Lib.Pipeline.ValueKit.Tiles

@[expose] public section

set_option maxRecDepth 16384

noncomputable section

namespace Cert.KernelIdeal.Gen

open Idealize.ShloMosaic Idealize.ShloMosaic.TcCoe Idealize.SL.Sem
open Idealize.ShloMosaic.ValueIdx Idealize.ShloMosaic.StableHlo

variable {F : FTy → Type} [FloatOps F]

/-- A rectangle of the buffer. -/
abbrev rMid : Rect S1152x1152 := Rect.unit (s := S1152x1152) ![0, 384] S1152x384.size inb_S1152x1152_S1152x384_0_384
/-- The rows the dot product's first, second and third row tap reads. -/
abbrev rRow0 : Rect S1152x1152 := Rect.unit (s := S1152x1152) ![32, 0] S1024x1152.size inb_S1152x1152_S1024x1152_32_0
abbrev rRow1 : Rect S1152x1152 := Rect.unit (s := S1152x1152) ![64, 0] S1024x1152.size inb_S1152x1152_S1024x1152_64_0
abbrev rRow2 : Rect S1152x1152 := Rect.unit (s := S1152x1152) ![96, 0] S1024x1152.size inb_S1152x1152_S1024x1152_96_0

/-- The pieces a point writes: the image block, the left and the right columns. -/
abbrev pX (x0 : Vec F S1x1024x384 .bf16) : View.Piece (Elt F) S1152x1152 .bf16 :=
  ⟨Rect.unit (s := S1152x1152) ![64, 384] S1024x384.size inb_S1152x1152_S1024x384_64_384, k0_pay4 x0⟩
abbrev pL (x0 : Vec F S1x1024x384 .bf16) : View.Piece (Elt F) S1152x1152 .bf16 :=
  ⟨Rect.unit (s := S1152x1152) ![0, 0] S1152x384.size inb_S1152x1152_S1152x384_0_0, k0_pay5 (mid x0)⟩
abbrev pR (x0 : Vec F S1x1024x384 .bf16) : View.Piece (Elt F) S1152x1152 .bf16 :=
  ⟨Rect.unit (s := S1152x1152) ![0, 768] S1152x384.size inb_S1152x1152_S1152x384_0_768,
    k0_pay6 (iota .tc S1152x1 32 [0] iota_S1152x1_d0_w32) (mid x0)⟩
/-- The two guard pieces of the first point. -/
abbrev pG1 : View.Piece (Elt F) S1152x1152 .bf16 :=
  ⟨Rect.unit (s := S1152x1152) ![1088, 384] S64x384.size inb_S1152x1152_S64x384_1088_384, k0_pay3⟩
abbrev pG0 : View.Piece (Elt F) S1152x1152 .bf16 :=
  ⟨Rect.unit (s := S1152x1152) ![0, 384] S64x384.size inb_S1152x1152_S64x384_0_384, k0_pay2⟩

/-- The guard rows of the middle columns are zero. -/
def Guarded (X : Vec F S1152x1152 .bf16) : Prop :=
  ∀ y : S1152x1152.Idx, 384 ≤ (y 1).val → (y 1).val < 768 → ((y 0).val < 64 ∨ 1088 ≤ (y 0).val) → X y = bzero

/-- The finished buffer has zero guard rows. -/
theorem guarded_xc (x0 : Vec F S1x1024x384 .bf16) : Guarded (xc x0) := by
  intro y h1 h2 h3
  show xcAt x0 (y 0).val (y 1).val = bzero
  unfold xcAt
  rw [if_neg (by omega), if_pos h2]
  unfold midAt
  rw [dif_neg (by omega)]

section View
variable {sig' : RefSig} {κ : Kind} {sp : Space} (v : View sig' κ sp S1152x1152 .bf16) (f : v.ty.Contents (Elt F))
  (L : List (View.Piece (Elt F) S1152x1152 .bf16)) (x0 : Vec F S1x1024x384 .bf16)

/-- Over zero guard rows, once the image block is stored, the middle columns are `midAt`. -/
theorem read_mid (y : S1152x1152.Idx)
    (hG : (64 ≤ (y 0).val ∧ (y 0).val < 1088) ∨ Guarded (F := F) (v.read (Elt F) (v.writes (Elt F) f L)))
    (h1 : 384 ≤ (y 1).val) (h2 : (y 1).val < 768) :
    v.read (Elt F) (v.writes (Elt F) f (pX x0 :: L)) y = midAt x0 (y 0).val ((y 1).val - 384) := by
  by_cases h : 64 ≤ (y 0).val ∧ (y 0).val < 1088
  · rw [View.read_writes_cons_unit_of_mem v f inb_S1152x1152_S1024x384_64_384 (k0_pay4 x0) L y
      (ix2 (⟨(y 0).val - 64, by omega⟩ : Fin 1024) (⟨(y 1).val - 384, by omega⟩ : Fin 384)) rfl (Fin.forall_fin_two.mpr ⟨by
        show (y 0).val = 64 + ((y 0).val - 64); omega, by
        show (y 1).val = 384 + ((y 1).val - 384); omega⟩)]
    rw [pay4_apply]
    unfold midAt
    rw [dif_pos ⟨h.1, h.2, by omega⟩]
  · rw [View.read_writes_cons_unit_of_not_mem v f inb_S1152x1152_S1024x384_64_384 (k0_pay4 x0) L y rfl (0 : Fin 2) (by
      show (y 0).val < 64 ∨ 64 + 1024 ≤ (y 0).val; omega)]
    rw [(hG.resolve_left h) y h1 h2 (by omega)]
    unfold midAt
    rw [dif_neg (by omega)]

/-- The load of the middle columns. -/
theorem ld_mid (hG : Guarded (F := F) (v.read (Elt F) (v.writes (Elt F) f L))) :
    View.ld (v.read (Elt F) (v.writes (Elt F) f (pX x0 :: L))) rMid = mid x0 := by
  funext x
  have hx0 : (x 0).val < 1152 := (x 0).isLt
  have hx1 : (x 1).val < 384 := (x 1).isLt
  rw [View.ld_unit_apply_of _ _ _ _ x (ix2 (⟨(x 0).val, hx0⟩ : Fin 1152) (⟨384 + (x 1).val, by omega⟩ : Fin 1152))
    (Fin.forall_fin_two.mpr ⟨by show (x 0).val = 0 + (x 0).val; omega, rfl⟩)]
  rw [read_mid v f L x0 _ (Or.inr hG) (by show 384 ≤ 384 + (x 1).val; omega) (by show 384 + (x 1).val < 768; omega)]
  show midAt x0 (x 0).val (384 + (x 1).val - 384) = midAt x0 (x 0).val (x 1).val
  rw [Nat.add_sub_cancel_left]

/-- Once the left and right columns are stored too, the buffer is `xc`: at the image rows whatever was there before, and at
    the guard rows over zero guard rows. -/
theorem read_at (y : S1152x1152.Idx)
    (hG : (64 ≤ (y 0).val ∧ (y 0).val < 1088) ∨ Guarded (F := F) (v.read (Elt F) (v.writes (Elt F) f L))) :
    v.read (Elt F) (v.writes (Elt F) f (pR x0 :: pL x0 :: pX x0 :: L)) y = xc x0 y := by
  have hy0 : (y 0).val < 1152 := (y 0).isLt
  have hy1 : (y 1).val < 1152 := (y 1).isLt
  show _ = xcAt x0 (y 0).val (y 1).val
  unfold xcAt
  by_cases hR : 768 ≤ (y 1).val
  · rw [if_neg (by omega), if_neg (by omega)]
    rw [View.read_writes_cons_unit_of_mem v f inb_S1152x1152_S1152x384_0_768 _ _ y
      (ix2 (⟨(y 0).val, hy0⟩ : Fin 1152) (⟨(y 1).val - 768, by omega⟩ : Fin 384)) rfl (Fin.forall_fin_two.mpr ⟨by
        show (y 0).val = 0 + (y 0).val; omega, by
        show (y 1).val = 768 + ((y 1).val - 768); omega⟩)]
    exact pay6_apply (mid x0) (ix2 (⟨(y 0).val, hy0⟩ : Fin 1152) (⟨(y 1).val - 768, by omega⟩ : Fin 384))
      (ix2 (⟨((y 0).val + 1) % 1152, by omega⟩ : Fin 1152) (⟨(y 1).val - 768, by omega⟩ : Fin 384)) rfl rfl
  · rw [View.read_writes_cons_unit_of_not_mem v f inb_S1152x1152_S1152x384_0_768 _ _ y rfl (1 : Fin 2) (by
      show (y 1).val < 768 ∨ 768 + 384 ≤ (y 1).val; omega)]
    by_cases hL : (y 1).val < 384
    · rw [if_pos hL]
      rw [View.read_writes_cons_unit_of_mem v f inb_S1152x1152_S1152x384_0_0 _ _ y
        (ix2 (⟨(y 0).val, hy0⟩ : Fin 1152) (⟨(y 1).val, hL⟩ : Fin 384)) rfl (Fin.forall_fin_two.mpr ⟨by
          show (y 0).val = 0 + (y 0).val; omega, by
          show (y 1).val = 0 + (y 1).val; omega⟩)]
      exact pay5_apply (mid x0) (ix2 (⟨(y 0).val, hy0⟩ : Fin 1152) (⟨(y 1).val, hL⟩ : Fin 384))
        (ix2 (⟨((y 0).val + 1151) % 1152, by omega⟩ : Fin 1152) (⟨(y 1).val, hL⟩ : Fin 384)) rfl rfl
    · rw [if_neg hL, if_pos (by omega)]
      rw [View.read_writes_cons_unit_of_not_mem v f inb_S1152x1152_S1152x384_0_0 _ _ y rfl (1 : Fin 2) (by
        show (y 1).val < 0 ∨ 0 + 384 ≤ (y 1).val; omega)]
      exact read_mid v f L x0 y hG (by omega) (by omega)

/-- Over zero guard rows the whole buffer is `xc`. -/
theorem read_full (hG : Guarded (F := F) (v.read (Elt F) (v.writes (Elt F) f L))) :
    v.read (Elt F) (v.writes (Elt F) f (pR x0 :: pL x0 :: pX x0 :: L)) = xc x0 :=
  funext fun y => read_at v f L x0 y (Or.inr hG)

/-- The image rows read `xc` whatever the buffer held. -/
theorem ld_row1 : View.ld (v.read (Elt F) (v.writes (Elt F) f (pR x0 :: pL x0 :: pX x0 :: L))) rRow1
    = View.ld (Val := Elt F) (e' := .bf16) (xc x0) rRow1 := by
  funext x
  have hx0 : (x 0).val < 1024 := (x 0).isLt
  exact read_at v f L x0 (rRow1.idx x) (Or.inl (by
    rw [show (rRow1.idx x 0).val = 64 + (x 0).val from Rect.idx_unit_val _ _ _ x 0]; omega))

/-- The two zero pieces of the first point leave zero guard rows. -/
theorem guarded_zeroed : Guarded (F := F) (v.read (Elt F) (v.writes (Elt F) f [pG1, pG0])) := by
  intro y h1 h2 h3
  by_cases h : (y 0).val < 64
  · rw [View.read_writes_cons_unit_of_not_mem v f inb_S1152x1152_S64x384_1088_384 _ _ y rfl (0 : Fin 2) (by
      show (y 0).val < 1088 ∨ 1088 + 64 ≤ (y 0).val; omega)]
    rw [View.read_writes_cons_unit_of_mem v f inb_S1152x1152_S64x384_0_384 _ _ y
      (ix2 (⟨(y 0).val, h⟩ : Fin 64) (⟨(y 1).val - 384, by omega⟩ : Fin 384)) rfl (Fin.forall_fin_two.mpr ⟨by
        show (y 0).val = 0 + (y 0).val; omega, by
        show (y 1).val = 384 + ((y 1).val - 384); omega⟩)]
    rfl
  · have hy0 : (y 0).val < 1152 := (y 0).isLt
    rw [View.read_writes_cons_unit_of_mem v f inb_S1152x1152_S64x384_1088_384 _ _ y
      (ix2 (⟨(y 0).val - 1088, by omega⟩ : Fin 64) (⟨(y 1).val - 384, by omega⟩ : Fin 384)) rfl (Fin.forall_fin_two.mpr ⟨by
        show (y 0).val = 1088 + ((y 0).val - 1088); omega, by
        show (y 1).val = 384 + ((y 1).val - 384); omega⟩)]
    rfl

end View

/-- The output block of a point: the two products over the point's im2col buffer. -/
def outBlk (x0 : Vec F S1x1024x384 .bf16) (x1 : Vec F S3456x1024 .bf16) (x2 : Vec F S1x1024 .f32) (x3 : Vec F S1x1024 .f32)
    (x4 : Vec F S1024x425 .bf16) (x5 : Vec F S1x425 .f32) : Vec F S1x1024x425 .f32 :=
  k0_pay1 (k0_pay7 (View.ld (Val := Elt F) (e' := .bf16) (xc x0) rRow0) (View.ld (Val := Elt F) (e' := .bf16) (xc x0) rRow1)
    (View.ld (Val := Elt F) (e' := .bf16) (xc x0) rRow2) x1 x2) x3 x4 x5

/-- A list of two zeros is the zero offsets. -/
theorem zeros2 : (![0, 0] : Fin 2 → ℕ) = fun _ => 0 := by decide
/-- A list of three zeros is the zero offsets. -/
theorem zeros3 : (![0, 0, 0] : Fin 3 → ℕ) = fun _ => 0 := by decide

section Cases
variable (c : Dev nD) (i : grid0.Coords) (arg1 : Memref sig .tc .vmem S1x1024x384 .bf16) (harg1 : arg1.IsWhole) (arg2 : Memref sig .tc .vmem S3456x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x425 .bf16) (harg5 : arg5.IsWhole) (arg6 : Memref sig .tc .vmem S1x425 .f32) (harg6 : arg6.IsWhole) (arg7 : Memref sig .tc .vmem S1x1024x425 .f32) (harg7 : arg7.IsWhole) (arg8 : Memref sig .tc .vmem S1152x1152 .bf16) (harg8 : arg8.IsWhole)
  (x0 : Vec F S1x1024x384 .bf16) (x1 : Vec F S3456x1024 .bf16) (x2 : Vec F S1x1024 .f32) (x3 : Vec F S1x1024 .f32) (x4 : Vec F S1024x425 .bf16) (x5 : Vec F S1x425 .f32)

/-- The first point leaves the buffer at `xc`. -/
theorem sout_A (hc0 : cond0_0 i) : sout0_A_0 c i arg1 harg1 arg2 harg2 arg3 harg3 arg4 harg4 arg5 harg5 arg6 harg6 arg7 harg7 arg8 harg8 hc0 x0 x1 x2 x3 x4 x5 = xc x0 := by
  unfold sout0_A_0 kernelRun0_A; dsimp only
  sl_unfold_words
  simp only [View.readCov, View.readAt_eq_ld, harg1.read_unread, View.ld_unit_zero (S := S1x1024x384) zeros3]
  rw [ld_mid _ _ _ _ (guarded_zeroed _ _)]
  exact read_full _ _ _ _ (guarded_zeroed _ _)

/-- A later point, over a buffer with zero guard rows, leaves it at `xc`. -/
theorem sout_B (hc0 : ¬cond0_0 i) (xs0 : Vec F S1152x1152 .bf16) (hG : Guarded xs0) :
    sout0_B_0 c i arg1 harg1 arg2 harg2 arg3 harg3 arg4 harg4 arg5 harg5 arg6 harg6 arg7 harg7 arg8 harg8 hc0 x0 x1 x2 x3 x4 x5 xs0 = xc x0 := by
  have hG' : Guarded (F := F) (arg8.view.read (Elt F) (arg8.view.writes (Elt F) (harg8.unread xs0) [])) := by
    rw [View.writes_nil, harg8.read_unread]; exact hG
  unfold sout0_B_0 kernelRun0_B; dsimp only
  sl_unfold_words
  simp only [View.readAt_eq_ld, harg1.read_unread, View.ld_unit_zero (S := S1x1024x384) zeros3]
  rw [ld_mid _ _ _ _ hG']
  exact read_full _ _ _ _ hG'

/-- The first point's output block. -/
theorem out_A (hc0 : cond0_0 i) : out0_A_6 c i arg1 harg1 arg2 harg2 arg3 harg3 arg4 harg4 arg5 harg5 arg6 harg6 arg7 harg7 arg8 harg8 hc0 x0 x1 x2 x3 x4 x5 = outBlk x0 x1 x2 x3 x4 x5 := by
  unfold out0_A_6 kernelRun0_A; dsimp only
  sl_unfold_words
  simp only [View.readCov, View.readAt_eq_ld, harg1.read_unread, harg2.read_unread, harg3.read_unread, harg4.read_unread,
    harg5.read_unread, harg6.read_unread, View.ld_unit_zero (S := S1x1024x384) zeros3,
    View.ld_unit_zero (S := S3456x1024) zeros2, View.ld_unit_zero (S := S1x1024) zeros2, View.ld_unit_zero (S := S1024x425) zeros2,
    View.ld_unit_zero (S := S1x425) zeros2]
  rw [ld_mid _ _ _ _ (guarded_zeroed _ _), read_full _ _ _ _ (guarded_zeroed _ _)]
  rw [View.read_writes_eq_canon _ _ _ (View.cover_of_tiledL _ S1x1024x425.size (by sl_kernel_rfl)), View.canon_unit_zero (S := S1x1024x425) zeros3]
  rfl

/-- A later point's output block. -/
theorem out_B (hc0 : ¬cond0_0 i) (xs0 : Vec F S1152x1152 .bf16) (hG : Guarded xs0) :
    out0_B_6 c i arg1 harg1 arg2 harg2 arg3 harg3 arg4 harg4 arg5 harg5 arg6 harg6 arg7 harg7 arg8 harg8 hc0 x0 x1 x2 x3 x4 x5 xs0 = outBlk x0 x1 x2 x3 x4 x5 := by
  have hG' : Guarded (F := F) (arg8.view.read (Elt F) (arg8.view.writes (Elt F) (harg8.unread xs0) [])) := by
    rw [View.writes_nil, harg8.read_unread]; exact hG
  unfold out0_B_6 kernelRun0_B; dsimp only
  sl_unfold_words
  simp only [View.readCov, View.readAt_eq_ld, harg1.read_unread, harg2.read_unread, harg3.read_unread, harg4.read_unread,
    harg5.read_unread, harg6.read_unread, View.ld_unit_zero (S := S1x1024x384) zeros3,
    View.ld_unit_zero (S := S3456x1024) zeros2, View.ld_unit_zero (S := S1x1024) zeros2, View.ld_unit_zero (S := S1024x425) zeros2,
    View.ld_unit_zero (S := S1x425) zeros2]
  rw [ld_mid _ _ _ _ hG', read_full _ _ _ _ hG', ld_row1]
  rw [View.read_writes_eq_canon _ _ _ (View.cover_of_tiledL _ S1x1024x425.size (by sl_kernel_rfl)), View.canon_unit_zero (S := S1x1024x425) zeros3]
  rfl

end Cases

variable (m : (ℓ : Loc nD τ sig) → Buf (Elt F) ℓ)

/-- After every point the buffer is `xc` of the point's image block. -/
theorem scratch_eq (c : Dev nD) (n : ℕ) (hn : n < cfg0.N) : (outsAt0 m c n hn).2 = xc (iblk m c 0 ⟨n, hn⟩) := by
  induction n with
  | zero =>
    rw [outsAt0_A m c ⟨0, hn⟩ rfl]
    dsimp only
    apply sout_A
  | succ n ih =>
    have hN : n + 1 < 8 := lt_of_lt_of_eq hn (show cfg0.N = 8 from N_0)
    rw [outsAt0_B m c ⟨n + 1, hn⟩ (by show ¬(n + 1) % 8 = 0; omega)]
    dsimp only
    apply sout_B
    rw [show (outsAt0 m c ((⟨n + 1, hn⟩ : Fin cfg0.N).val - 1) _).2 = xc (iblk m c 0 ⟨n, Nat.lt_of_succ_lt hn⟩) from ih (Nat.lt_of_succ_lt hn)]
    exact guarded_xc _

/-- After every point the output block is `outBlk` of the point's input blocks. -/
theorem out_eq (c : Dev nD) (t : Fin cfg0.N) :
    (outsAt0 m c t.val t.isLt).1 = outBlk (iblk m c 0 t) (iblk m c 1 t) (iblk m c 2 t) (iblk m c 3 t) (iblk m c 4 t) (iblk m c 5 t) := by
  by_cases h0 : t.val % 8 = 0
  · rw [outsAt0_A m c t h0]; dsimp only; apply out_A
  · rw [outsAt0_B m c t h0]
    dsimp only
    apply out_B
    rw [scratch_eq]
    exact guarded_xc _

end Cert.KernelIdeal.Gen

end
-- ==== Proof.Payload.lean ====
/- The output block at an index, over the extended reals: the sum over the 1024 channels of the activated first product times
   the second layer's weights, plus its bias; the first product is the sum over the 3456 entries of an im2col row. -/
module

public import proofs.«01_k».proof.Proof.Buffer
public import Idealize.ShloMosaic.PureOps.Ideal.Laws

@[expose] public section

set_option maxRecDepth 16384

noncomputable section

namespace Cert.KernelIdeal.Gen

open Idealize.ShloMosaic Idealize.ShloMosaic.TcCoe Idealize.SL.Sem
open Idealize.ShloMosaic.ValueIdx Idealize.ShloMosaic.StableHlo

/-- A row tap at an index: the buffer at the row moved by the tap. -/
theorem ld_row {F : FTy → Type} [FloatOps F] (x0 : Vec F S1x1024x384 .bf16) (n : Fin 3)
    (h : ∀ a, (![32 * (n.val + 1), 0] : Fin 2 → ℕ) a + S1024x1152.size a ≤ S1152x1152.size a) (p : Fin 1024) (q : Fin 1152) :
    View.ld (Val := Elt F) (e' := .bf16) (xc x0) (Rect.unit (s := S1152x1152) ![32 * (n.val + 1), 0] S1024x1152.size h) (ix2 p q)
      = xcAt x0 (p.val + 32 * (n.val + 1)) q.val := by
  have hn := n.isLt
  have hp := p.isLt
  rw [View.ld_unit_apply_of _ _ _ _ _ (ix2 (⟨p.val + 32 * (n.val + 1), by omega⟩ : Fin 1152) q)
    (Fin.forall_fin_two.mpr ⟨Nat.add_comm _ _, (Nat.zero_add _).symm⟩)]
  rfl

/-- The three row taps side by side: entry `k` of row `p` is the buffer at row `p + 32 (k / 1152 + 1)`, column `k % 1152`. -/
theorem cat_apply {F : FTy → Type} [FloatOps F] (x0 : Vec F S1x1024x384 .bf16) (p : Fin 1024) (k : Fin 3456) :
    concatenate S1024x3456 1 [⟨S1024x1152, View.ld (Val := Elt F) (e' := .bf16) (xc x0) rRow0⟩,
      ⟨S1024x1152, View.ld (Val := Elt F) (e' := .bf16) (xc x0) rRow1⟩,
      ⟨S1024x1152, View.ld (Val := Elt F) (e' := .bf16) (xc x0) rRow2⟩]
      concatenates_S1024x1152_S1024x1152_S1024x1152_S1024x3456_d1 (ix2 p k)
    = xcAt x0 (p.val + 32 * (k.val / 1152 + 1)) (k.val % 1152) := by
  have hp := p.isLt
  have hk := k.isLt
  have hne : ∀ (q : Fin 1152) (b : Fin 2), b.cast (rfl : 2 = 2) ≠ (1 : Fin 2) →
      ((ix2 p q : S1024x1152.Idx) b).val = ((ix2 p k : S1024x3456.Idx) (b.cast rfl)).val := by
    intro q b hb
    have : b = 0 := by
      match b with
      | ⟨0, _⟩ => rfl
      | ⟨1, _⟩ => exact absurd rfl hb
    subst this; rfl
  have hkq : k.val % 1152 < 1152 := Nat.mod_lt _ (by omega)
  rcases (show k.val / 1152 = 0 ∨ k.val / 1152 = 1 ∨ k.val / 1152 = 2 by omega) with h | h | h <;> rw [h]
  · exact (concatenate_apply_piece (t := S1024x3456) 1 _ _ _ 0 (by show 0 < 3; omega) S1024x1152 _ rfl rfl 0 rfl
      (ix2 p ⟨k.val % 1152, hkq⟩) (hne _) (by show 0 + k.val % 1152 = k.val; omega)).trans (ld_row x0 0 _ p _)
  · exact (concatenate_apply_piece (t := S1024x3456) 1 _ _ _ 1 (by show 1 < 3; omega) S1024x1152 _ rfl rfl 1152 rfl
      (ix2 p ⟨k.val % 1152, hkq⟩) (hne _) (by show 1152 + k.val % 1152 = k.val; omega)).trans (ld_row x0 1 _ p _)
  · exact (concatenate_apply_piece (t := S1024x3456) 1 _ _ _ 2 (by show 2 < 3; omega) S1024x1152 _ rfl rfl 2304 rfl
      (ix2 p ⟨k.val % 1152, hkq⟩) (hne _) (by show 2304 + k.val % 1152 = k.val; omega)).trans (ld_row x0 2 _ p _)

/-- The leaky ReLU the programs print, at an extended real. -/
def act (y : EReal) : EReal :=
  Scalar.select (FloatOps.cmpf (F := Ideal) (φ := .f32) .ogt y (FloatOps.ofBits .f32 0x00000000#32)) y
    (FloatOps.mulf (F := Ideal) (φ := .f32) (FloatOps.ofBits .f32 0x3DCCCCCD#32) y)

abbrev dot1 := dot_S1024x3456_S3456x1024_S1024x1024_1_0_0_1_n_n
abbrev dot2 := dot_S1024x1024_S1024x425_S1024x425_1_0_0_1_n_n

/-- A product of an `M × K` by a `K × N` array over a zero accumulator, at an index. -/
theorem mat_apply {M K N : ℕ} (a : FVec Ideal ⟨2, ![M, K]⟩ .bf16) (w : FVec Ideal ⟨2, ![K, N]⟩ .bf16) (p : Fin M) (j : Fin N) :
    FloatOps.matmul (DotDims.plain M K N) none a w (constant (F := Ideal) ⟨2, ![M, N]⟩ .f32 0x00000000#32) (ix2 p j)
      = ∑ k : Fin K, a (ix2 p k) * w (ix2 k j) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p j) ((ValueIdx.contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p j) ((ValueIdx.contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- The first product at an index. -/
theorem mat1_apply (a : FVec Ideal S1024x3456 .bf16) (w : FVec Ideal S3456x1024 .bf16) (p j : Fin 1024) :
    matmul dot1 none a w (constant (F := Ideal) S1024x1024 .f32 0x00000000#32) (ix2 p j)
      = ∑ k : Fin 3456, a (ix2 p k) * w (ix2 k j) := mat_apply a w p j

/-- The second product at an index. -/
theorem mat2_apply (a : FVec Ideal S1024x1024 .bf16) (w : FVec Ideal S1024x425 .bf16) (p : Fin 1024) (o : Fin 425) :
    matmul dot2 none a w (constant (F := Ideal) S1024x425 .f32 0x00000000#32) (ix2 p o)
      = ∑ k : Fin 1024, a (ix2 p k) * w (ix2 k o) := mat_apply a w p o

/-- A row of 1024 broadcast over 1024 rows. -/
theorem row1024 (x : Vec Ideal S1x1024 .f32) (p j : Fin 1024) :
    broadcastTo S1024x1024 x broadcasts_S1x1024_S1024x1024 (ix2 p j) = x (ix2 (0 : Fin 1) j) :=
  broadcastTo_apply x _ (ix2 p j) (ix2 (0 : Fin 1) j) (by
    intro a
    match a with
    | ⟨0, _⟩ => rfl
    | ⟨1, _⟩ => rfl)

/-- A row of 425 broadcast over 1024 rows. -/
theorem row425 (x : Vec Ideal S1x425 .f32) (p : Fin 1024) (o : Fin 425) :
    broadcastTo S1024x425 x broadcasts_S1x425_S1024x425 (ix2 p o) = x (ix2 (0 : Fin 1) o) :=
  broadcastTo_apply x _ (ix2 p o) (ix2 (0 : Fin 1) o) (by
    intro a
    match a with
    | ⟨0, _⟩ => rfl
    | ⟨1, _⟩ => rfl)

/-- The scaled first product of an im2col buffer, at an index. -/
theorem pay7_apply (x0 : Vec Ideal S1x1024x384 .bf16) (x1 : Vec Ideal S3456x1024 .bf16) (x2 : Vec Ideal S1x1024 .f32) (p j : Fin 1024) :
    k0_pay7 (View.ld (Val := Elt Ideal) (e' := .bf16) (xc x0) rRow0) (View.ld (Val := Elt Ideal) (e' := .bf16) (xc x0) rRow1)
      (View.ld (Val := Elt Ideal) (e' := .bf16) (xc x0) rRow2) x1 x2 (ix2 p j)
    = (∑ k : Fin 3456, xcAt x0 (p.val + 32 * (k.val / 1152 + 1)) (k.val % 1152) * x1 (ix2 k j) : EReal) * x2 (ix2 (0 : Fin 1) j) := by
  unfold k0_pay7
  show (matmul dot1 none _ _ (constant (F := Ideal) S1024x1024 .f32 0x00000000#32) (ix2 p j) : EReal)
    * broadcastTo S1024x1024 (shapeCast S1x1024 x2 shapeCasts_S1x1024_S1x1024) broadcasts_S1x1024_S1024x1024 (ix2 p j) = _
  rw [mat1_apply, row1024, shapeCast_self, shapeCast_self]
  exact congrArg (fun z : EReal => z * x2 (ix2 (0 : Fin 1) j)) (Finset.sum_congr rfl fun k _ =>
    congrArg (fun z : EReal => z * x1 (ix2 k j)) (cat_apply x0 p k))

/-- The output block at an index. -/
theorem outBlk_apply (x0 : Vec Ideal S1x1024x384 .bf16) (x1 : Vec Ideal S3456x1024 .bf16) (x2 x3 : Vec Ideal S1x1024 .f32)
    (x4 : Vec Ideal S1024x425 .bf16) (x5 : Vec Ideal S1x425 .f32) (p : Fin 1024) (o : Fin 425) :
    outBlk x0 x1 x2 x3 x4 x5 (ix3 (0 : Fin 1) p o)
    = (∑ j : Fin 1024, act ((∑ k : Fin 3456, xcAt x0 (p.val + 32 * (k.val / 1152 + 1)) (k.val % 1152) * x1 (ix2 k j) : EReal)
          * x2 (ix2 (0 : Fin 1) j) + x3 (ix2 (0 : Fin 1) j)) * x4 (ix2 j o) : EReal) + x5 (ix2 (0 : Fin 1) o) := by
  unfold outBlk k0_pay1
  refine (shapeCast_apply _ shapeCasts_S1024x425_S1x1024x425 (ix3 (0 : Fin 1) p o) (ix2 p o) (by
    rw [Shape.rowMajor_val_three, Shape.rowMajor_val_two]
    show p.val * 425 + o.val = (0 * 1024 + p.val) * 425 + o.val
    omega)).trans ?_
  show (matmul dot2 none _ _ (constant (F := Ideal) S1024x425 .f32 0x00000000#32) (ix2 p o) : EReal)
    + broadcastTo S1024x425 (shapeCast S1x425 x5 shapeCasts_S1x425_S1x425) broadcasts_S1x425_S1024x425 (ix2 p o) = _
  rw [mat2_apply, row425, shapeCast_self, shapeCast_self, shapeCast_self]
  refine congrArg (fun z : EReal => z + x5 (ix2 (0 : Fin 1) o)) (Finset.sum_congr rfl fun j _ =>
    congrArg (fun z : EReal => z * x4 (ix2 j o)) ?_)
  rw [← pay7_apply x0 x1 x2 p j, ← row1024 x3 p j]
  rfl

end Cert.KernelIdeal.Gen

end
-- ==== Proof.Result.lean ====
/- The kernel's result array. Point `t` writes block `t` of the pallas call's result; the blocks tile it, so the array is,
   at `(b, p, o)`, the output block of image `b` at `(p, o)`; the host's last line reshapes it. -/
module

public import proofs.«01_k».proof.Proof.Payload
public import Idealize.ShloMosaic.Lib.StableHlo.Run
public import Idealize.ShloMosaic.Lib.Tactic
public import Idealize.ShloMosaic.Lib.Quiescent

@[expose] public section

set_option maxRecDepth 16384

noncomputable section

namespace Cert.KernelIdeal.Gen

open Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The output block of point `t`. -/
def blkAt (c : Dev nD) (t : Fin cfg0.N) : Vec F S1x1024x425 .f32 :=
  outBlk (iblk m c 0 t) (iblk m c 1 t) (iblk m c 2 t) (iblk m c 3 t) (iblk m c 4 t) (iblk m c 5 t)

/-- The pallas call's result array. -/
def callResult (c : Dev nD) : Vec F S8x1024x425 .f32 := fun i =>
  blkAt m c ⟨(i 0).val, lt_of_lt_of_eq (i 0).isLt (show 8 = cfg0.N from N_0.symm)⟩
    (ix3 (0 : Fin 1) (⟨(i 1).val, (i 1).isLt⟩ : Fin 1024) (⟨(i 2).val, (i 2).isLt⟩ : Fin 425))

/-- The block indices of the image window and of the result window. -/
theorem index0_0 : ∀ t : Fin cfg0.N, win0_0.index t 0 = t.val ∧ win0_0.index t 1 = 0 ∧ win0_0.index t 2 = 0 := by decide +kernel
theorem index0_6 : ∀ t : Fin cfg0.N, win0_6.index t 0 = t.val ∧ win0_6.index t 1 = 0 ∧ win0_6.index t 2 = 0 := by decide +kernel

/-- Point `t` writes back block `t` of the result array. -/
theorem flushed_eq (c : Dev nD) (t : Fin cfg0.N) (hf : (cfg0.win 6).flush t = true) :
    (dats m 0 c).flushed 6 t = ((cfg0.win 6).blk t).view.read (Elt F) (callResult m c) := by
  show (cfg0.win 6).cut (grid0.coords t) ((dats m 0 c).after 6 t) = _
  rw [after0_6, out_eq]
  funext x
  rw [View.read_apply]
  have h6 := index0_6 t
  show blkAt m c t x = callResult m c ((win0_6.rect t).emb x)
  have e0 : ((win0_6.rect t).emb x 0 : Nat) = t.val := by
    rw [Pipeline.Window.rect_emb_val win0_6 t x 0, h6.1]
    have hx : (x 0).val < 1 := (x 0).isLt
    show t.val * 1 + (x 0).val = t.val
    omega
  have e1 : ((win0_6.rect t).emb x 1 : Nat) = (x 1).val := Pipeline.Window.rect_emb_val_of_index_zero win0_6 t 1 h6.2.1 x
  have e2 : ((win0_6.rect t).emb x 2 : Nat) = (x 2).val := Pipeline.Window.rect_emb_val_of_index_zero win0_6 t 2 h6.2.2 x
  unfold callResult
  have et : (⟨((win0_6.rect t).emb x 0).val, lt_of_lt_of_eq ((win0_6.rect t).emb x 0).isLt (show 8 = cfg0.N from N_0.symm)⟩ : Fin cfg0.N) = t :=
    Fin.ext e0
  rw [et]
  refine congrArg (blkAt m c t) (funext fun a => Fin.ext ?_)
  match a with
  | ⟨0, _⟩ => have hx : (x 0).val < 1 := (x 0).isLt; show (x 0).val = 0; omega
  | ⟨1, _⟩ => exact e1.symm
  | ⟨2, _⟩ => exact e2.symm

/-- The result array after the run. -/
theorem final_o (c : Dev nD) : (dats m 0 c).arrAt 6 cfg0.N = callResult m c :=
  (dats m 0 c).arrAt_eq_of_cover 6 (callResult m c) (flushed_eq m c) fun i => by
    have h0 : (i 0 : Nat) < 8 := (i 0).isLt
    have h1 : (i 1 : Nat) < 1024 := (i 1).isLt
    have h2 : (i 2 : Nat) < 425 := (i 2).isLt
    refine ⟨⟨(i 0).val, lt_of_lt_of_eq h0 (show 8 = cfg0.N from N_0.symm)⟩, flush0_6 _, ?_⟩
    have h6 := index0_6 ⟨(i 0).val, lt_of_lt_of_eq h0 (show 8 = cfg0.N from N_0.symm)⟩
    show i ∈ ((View.whole main_v18).slice (win0_6.rect ⟨(i 0).val, lt_of_lt_of_eq h0 (show 8 = cfg0.N from N_0.symm)⟩)).set
    rw [View.set_slice_whole, Rect.mem_set_unit]
    intro a
    match a with
    | ⟨0, _⟩ =>
      show win0_6.index _ 0 * 1 ≤ (i 0 : Nat) ∧ (i 0 : Nat) < win0_6.index _ 0 * 1 + 1
      rw [h6.1]; show (i 0).val * 1 ≤ (i 0).val ∧ (i 0).val < (i 0).val * 1 + 1; omega
    | ⟨1, _⟩ =>
      show win0_6.index _ 1 * 1024 ≤ (i 1 : Nat) ∧ (i 1 : Nat) < win0_6.index _ 1 * 1024 + 1024
      rw [h6.2.1]; omega
    | ⟨2, _⟩ =>
      show win0_6.index _ 2 * 425 ≤ (i 2 : Nat) ∧ (i 2 : Nat) < win0_6.index _ 2 * 425 + 425
      rw [h6.2.2]; omega

/-- The program's result: the reshape of the result array. -/
def result (c : Dev nD) : Vec F S8x32x32x425 .f32 :=
  shapeCast S8x32x32x425 (callResult m c) shapeCasts_S8x1024x425_S8x32x32x425

/-- The reshape after the region reads the result array. -/
theorem tail_eq (c : Dev nD) : Pipeline.afterTail₀ cfgs (dats m) 0 (V0 m) [hostOps1] c main_v19 = result m c := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.devRef .tc main_v18)
      = (dats m 0 c).arrAt 6 cfg0.N from
    Pipeline.withArrays_arr _ launch0.win.arr_inj c (V0 m c) _ 6]
  rw [final_o]
  rfl

/-- The run: the result at the reshaped array, the arguments unchanged. -/
theorem run : θ_run defs (onTc (τ := τ) (main (F := F))) ⟨m, fun _ => 0, ρ⟩ (fun r => ∀ c : Dev nD,
      r.2.mem ((c.tc : Thread nD τ).loc main_v19) = result m c) :=
  (θ_run defs _ _).mono (fun _ h c => ((h c).2 main_v19 (Pipeline.mem_restRefs_of main_v19 (by decide) (by decide))).trans (tail_eq m c)) (run_main m ρ)

end Cert.KernelIdeal.Gen

end
-- ==== Proof.HostArrays.lean ====
/- The arrays the pallas call reads, entry by entry, from the program's arguments: the host transposes and reshapes the
   features and both weights, and folds the batch statistics into one scale and one shift per channel. -/
module

public import proofs.«01_k».proof.Proof.Result

@[expose] public section

set_option maxRecDepth 16384

noncomputable section

namespace Cert.KernelIdeal.Gen

open Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The constant the host adds to the variance. -/
def epsIdeal : EReal := FloatOps.ofBits (F := Ideal) .f32 0x3727C5AC#32

/-- The argument arrays, by name. -/
def feat (c : Dev nD) : Vec Ideal S8x384x32x32 .f32 := m ((c.tc : Thread nD τ).loc main_arg0)
def wconv (c : Dev nD) : Vec Ideal S1024x384x3x3 .f32 := m ((c.tc : Thread nD τ).loc main_arg1)
def gam (c : Dev nD) : Vec Ideal S1024 .f32 := m ((c.tc : Thread nD τ).loc main_arg2)
def bet (c : Dev nD) : Vec Ideal S1024 .f32 := m ((c.tc : Thread nD τ).loc main_arg3)
def mea (c : Dev nD) : Vec Ideal S1024 .f32 := m ((c.tc : Thread nD τ).loc main_arg4)
def vari (c : Dev nD) : Vec Ideal S1024 .f32 := m ((c.tc : Thread nD τ).loc main_arg5)
def wout (c : Dev nD) : Vec Ideal S425x1024x1x1 .f32 := m ((c.tc : Thread nD τ).loc main_arg6)
def bout (c : Dev nD) : Vec Ideal S425 .f32 := m ((c.tc : Thread nD τ).loc main_arg7)

/-- The reciprocal square root of a channel's variance plus the constant. -/
def rs (c : Dev nD) (j : Fin 1024) : EReal := Ideal.rsqrt (vari m c (ix1 j) + epsIdeal)

/-! ## The arrays the host leaves -/

theorem V_v14 (c : Dev nD) : V m c main_v14 = (shapeCast S8x1024x384 (transpose S8x32x32x384 [0, 2, 3, 1]
    (truncf (F := Ideal) (φ := .f32) .bf16 (feat m c) bitsLt_bf16_f32) transposes_S8x384x32x32_S8x32x32x384_0_2_3_1) shapeCasts_S8x32x32x384_S8x1024x384 : Vec Ideal S8x1024x384 .bf16) := by
  show StableHlo.after (List.flatten [hostOps0]) _ (Proc.devRef .tc main_v14) = _
  simp only [List.flatten_cons, List.flatten_nil, List.append_nil]
  after_results
  rfl

theorem V_v8 (c : Dev nD) : V m c main_v8 = (shapeCast S3456x1024 (transpose S3x3x384x1024 [2, 3, 1, 0]
    (truncf (F := Ideal) (φ := .f32) .bf16 (wconv m c) bitsLt_bf16_f32) transposes_S1024x384x3x3_S3x3x384x1024_2_3_1_0) shapeCasts_S3x3x384x1024_S3456x1024 : Vec Ideal S3456x1024 .bf16) := by
  show StableHlo.after (List.flatten [hostOps0]) _ (Proc.devRef .tc main_v8) = _
  simp only [List.flatten_cons, List.flatten_nil, List.append_nil]
  after_results
  rfl

/-- The folded scale, as the host computes it. -/
def scaleVec (c : Dev nD) : Vec Ideal S1024 .f32 :=
  mulf (gam m c) (Host.rsqrt (addf (vari m c) (broadcastInDim S1024 ![] bcast_S_S1024 (constant (F := Ideal) S_ .f32 0x3727C5AC#32))))

theorem V_v15 (c : Dev nD) : V m c main_v15 = broadcastInDim S1x1024 ![1] bcast_S1024_S1x1024_1 (scaleVec m c) := by
  show StableHlo.after (List.flatten [hostOps0]) _ (Proc.devRef .tc main_v15) = _
  simp only [List.flatten_cons, List.flatten_nil, List.append_nil]
  after_results
  rfl

theorem V_v16 (c : Dev nD) : V m c main_v16 = (broadcastInDim S1x1024 ![1] bcast_S1024_S1x1024_1
    (subf (F := Ideal) (φ := .f32) (bet m c) (mulf (F := Ideal) (φ := .f32) (mea m c) (scaleVec m c))) : Vec Ideal S1x1024 .f32) := by
  show StableHlo.after (List.flatten [hostOps0]) _ (Proc.devRef .tc main_v16) = _
  simp only [List.flatten_cons, List.flatten_nil, List.append_nil]
  after_results
  rfl

theorem V_v11 (c : Dev nD) : V m c main_v11 = (truncf (F := Ideal) (φ := .f32) .bf16 (transpose S1024x425 [1, 0]
    (shapeCast S425x1024 (wout m c) shapeCasts_S425x1024x1x1_S425x1024) transposes_S425x1024_S1024x425_1_0) bitsLt_bf16_f32 : Vec Ideal S1024x425 .bf16) := by
  show StableHlo.after (List.flatten [hostOps0]) _ (Proc.devRef .tc main_v11) = _
  simp only [List.flatten_cons, List.flatten_nil, List.append_nil]
  after_results
  rfl

theorem V_v17 (c : Dev nD) : V m c main_v17 = broadcastInDim S1x425 ![1] bcast_S425_S1x425_1 (bout m c) := by
  show StableHlo.after (List.flatten [hostOps0]) _ (Proc.devRef .tc main_v17) = _
  simp only [List.flatten_cons, List.flatten_nil, List.append_nil]
  after_results
  rfl

/-! ## The blocks at an index -/

/-- The image block: pixel `p`, channel `k`. -/
theorem iblk0_apply (c : Dev nD) (t : Fin cfg0.N) (b : Fin 8) (hb : b.val = t.val) (p : Fin 1024) (k : Fin 384) :
    iblk m c 0 t (ix3 (0 : Fin 1) p k)
    = feat m c (ix4 b k (⟨p.val / 32, by omega⟩ : Fin 32) (⟨p.val % 32, by omega⟩ : Fin 32)) := by
  have hi := index0_0 t
  unfold iblk
  rw [View.read_apply]
  show (V m c main_v14 : Vec Ideal S8x1024x384 .bf16) ((win0_0.rect t).emb (ix3 (0 : Fin 1) p k)) = _
  have hidx : (win0_0.rect t).emb (ix3 (0 : Fin 1) p k) = (ix3 b p k : S8x1024x384.Idx) := by
    funext a
    apply Fin.ext
    match a with
    | ⟨0, _⟩ =>
      refine (Pipeline.Window.rect_emb_val win0_0 t (ix3 (0 : Fin 1) p k) 0).trans ?_
      rw [hi.1]; show t.val * 1 + 0 = b.val; omega
    | ⟨1, _⟩ => exact Pipeline.Window.rect_emb_val_of_index_zero win0_0 t 1 hi.2.1 _
    | ⟨2, _⟩ => exact Pipeline.Window.rect_emb_val_of_index_zero win0_0 t 2 hi.2.2 _
  rw [hidx, V_v14]
  rw [shapeCast_apply _ _ _ (ix4 b (⟨p.val / 32, by omega⟩ : Fin 32) (⟨p.val % 32, by omega⟩ : Fin 32) k) (by
    rw [Shape.rowMajor_val_four, Shape.rowMajor_val_three]
    show ((b.val * 32 + p.val / 32) * 32 + p.val % 32) * 384 + k.val = (b.val * 1024 + p.val) * 384 + k.val
    have := Nat.div_add_mod p.val 32
    congr 2; omega)]
  rw [transpose_apply _ _ _ _ (ix4 b k (⟨p.val / 32, by omega⟩ : Fin 32) (⟨p.val % 32, by omega⟩ : Fin 32)) (by
    intro a
    match a with
    | ⟨0, _⟩ => rfl
    | ⟨1, _⟩ => rfl
    | ⟨2, _⟩ => rfl
    | ⟨3, _⟩ => rfl)]
  rfl

/-- A block at block index zero on every axis sits in its array at its own indices. -/
theorem emb_whole {G : Pipeline.Grid} (w : Pipeline.Window sig G) (t : Fin G.N) (h : ∀ a, w.index t a = 0)
    (y : (w.xblock (G.coords t)).Idx) (i : w.shape.Idx) (hi : ∀ a, (i a).val = (y a).val) : (w.rect t).emb y = i :=
  funext fun a => Fin.ext ((Pipeline.Window.rect_emb_val_of_index_zero w t a (h a) y).trans (hi a).symm)

/-- The block indices of the windows that read a whole array. -/
theorem index0_1 : ∀ (t : Fin cfg0.N) (a : Fin 2), win0_1.index t a = 0 := by decide +kernel
theorem index0_2 : ∀ (t : Fin cfg0.N) (a : Fin 2), win0_2.index t a = 0 := by decide +kernel
theorem index0_3 : ∀ (t : Fin cfg0.N) (a : Fin 2), win0_3.index t a = 0 := by decide +kernel
theorem index0_4 : ∀ (t : Fin cfg0.N) (a : Fin 2), win0_4.index t a = 0 := by decide +kernel
theorem index0_5 : ∀ (t : Fin cfg0.N) (a : Fin 2), win0_5.index t a = 0 := by decide +kernel

/-- The first layer's weights: row `k` is tap `(k / 1152, k / 384 % 3)` of input channel `k % 384`. -/
theorem iblk1_apply (c : Dev nD) (t : Fin cfg0.N) (k : Fin 3456) (j : Fin 1024) :
    iblk m c 1 t (ix2 k j)
    = wconv m c (ix4 j (⟨k.val % 384, by omega⟩ : Fin 384) (⟨k.val / 1152, by omega⟩ : Fin 3) (⟨k.val / 384 % 3, by omega⟩ : Fin 3)) := by
  unfold iblk
  rw [View.read_apply]
  show (V m c main_v8 : Vec Ideal S3456x1024 .bf16) ((win0_1.rect t).emb (ix2 k j)) = _
  have hidx : (win0_1.rect t).emb (ix2 k j) = (ix2 k j : S3456x1024.Idx) := emb_whole win0_1 t (index0_1 t) _ _ fun _ => rfl
  rw [hidx, V_v8]
  rw [shapeCast_apply _ _ _ (ix4 (⟨k.val / 1152, by omega⟩ : Fin 3) (⟨k.val / 384 % 3, by omega⟩ : Fin 3) (⟨k.val % 384, by omega⟩ : Fin 384) j) (by
    rw [Shape.rowMajor_val_four, Shape.rowMajor_val_two]
    show ((k.val / 1152 * 3 + k.val / 384 % 3) * 384 + k.val % 384) * 1024 + j.val = k.val * 1024 + j.val
    congr 2; omega)]
  rw [transpose_apply _ _ _ _ (ix4 j (⟨k.val % 384, by omega⟩ : Fin 384) (⟨k.val / 1152, by omega⟩ : Fin 3) (⟨k.val / 384 % 3, by omega⟩ : Fin 3)) (by
    intro a
    match a with
    | ⟨0, _⟩ => rfl
    | ⟨1, _⟩ => rfl
    | ⟨2, _⟩ => rfl
    | ⟨3, _⟩ => rfl)]
  rfl

/-- The folded scale of channel `j`. -/
theorem scaleVec_apply (c : Dev nD) (j : Fin 1024) : scaleVec m c (ix1 j) = gam m c (ix1 j) * rs m c j := by
  unfold scaleVec
  show gam m c (ix1 j) * Ideal.rsqrt (vari m c (ix1 j)
    + broadcastInDim S1024 ![] bcast_S_S1024 (constant (F := Ideal) S_ .f32 0x3727C5AC#32) (ix1 j)) = _
  rw [broadcastInDim_apply _ _ _ _ (fun a => a.elim0) (fun a => a.elim0)]
  rfl

theorem iblk2_apply (c : Dev nD) (t : Fin cfg0.N) (j : Fin 1024) :
    iblk m c 2 t (ix2 (0 : Fin 1) j) = gam m c (ix1 j) * rs m c j := by
  unfold iblk
  rw [View.read_apply]
  show (V m c main_v15 : Vec Ideal S1x1024 .f32) ((win0_2.rect t).emb (ix2 (0 : Fin 1) j)) = _
  have hidx : (win0_2.rect t).emb (ix2 (0 : Fin 1) j) = (ix2 (0 : Fin 1) j : S1x1024.Idx) := emb_whole win0_2 t (index0_2 t) _ _ fun _ => rfl
  rw [hidx, V_v15, broadcastInDim_apply _ _ _ _ (ix1 j) (by intro a; match a with | ⟨0, _⟩ => rfl), scaleVec_apply]

/-- The folded shift of channel `j`. -/
theorem iblk3_apply (c : Dev nD) (t : Fin cfg0.N) (j : Fin 1024) :
    iblk m c 3 t (ix2 (0 : Fin 1) j) = bet m c (ix1 j) - mea m c (ix1 j) * (gam m c (ix1 j) * rs m c j) := by
  unfold iblk
  rw [View.read_apply]
  show (V m c main_v16 : Vec Ideal S1x1024 .f32) ((win0_3.rect t).emb (ix2 (0 : Fin 1) j)) = _
  have hidx : (win0_3.rect t).emb (ix2 (0 : Fin 1) j) = (ix2 (0 : Fin 1) j : S1x1024.Idx) := emb_whole win0_3 t (index0_3 t) _ _ fun _ => rfl
  rw [hidx, V_v16, broadcastInDim_apply _ _ _ _ (ix1 j) (by intro a; match a with | ⟨0, _⟩ => rfl), subf_apply, mulf_apply,
    scaleVec_apply]

/-- The second layer's weights, transposed. -/
theorem iblk4_apply (c : Dev nD) (t : Fin cfg0.N) (j : Fin 1024) (o : Fin 425) :
    iblk m c 4 t (ix2 j o) = wout m c (ix4 o j (0 : Fin 1) (0 : Fin 1)) := by
  unfold iblk
  rw [View.read_apply]
  show (V m c main_v11 : Vec Ideal S1024x425 .bf16) ((win0_4.rect t).emb (ix2 j o)) = _
  have hidx : (win0_4.rect t).emb (ix2 j o) = (ix2 j o : S1024x425.Idx) := emb_whole win0_4 t (index0_4 t) _ _ fun _ => rfl
  rw [hidx, V_v11]
  show transpose S1024x425 [1, 0] (shapeCast S425x1024 (wout m c) shapeCasts_S425x1024x1x1_S425x1024)
    transposes_S425x1024_S1024x425_1_0 (ix2 j o) = _
  rw [transpose_apply _ _ _ _ (ix2 o j) (by
    intro a
    match a with
    | ⟨0, _⟩ => rfl
    | ⟨1, _⟩ => rfl)]
  rw [shapeCast_apply _ _ _ (ix4 o j (0 : Fin 1) (0 : Fin 1)) (by
    rw [Shape.rowMajor_val_four, Shape.rowMajor_val_two]
    show ((o.val * 1024 + j.val) * 1 + 0) * 1 + 0 = o.val * 1024 + j.val
    omega)]

/-- The second layer's bias. -/
theorem iblk5_apply (c : Dev nD) (t : Fin cfg0.N) (o : Fin 425) :
    iblk m c 5 t (ix2 (0 : Fin 1) o) = bout m c (ix1 o) := by
  unfold iblk
  rw [View.read_apply]
  show (V m c main_v17 : Vec Ideal S1x425 .f32) ((win0_5.rect t).emb (ix2 (0 : Fin 1) o)) = _
  have hidx : (win0_5.rect t).emb (ix2 (0 : Fin 1) o) = (ix2 (0 : Fin 1) o : S1x425.Idx) := emb_whole win0_5 t (index0_5 t) _ _ fun _ => rfl
  rw [hidx, V_v17, broadcastInDim_apply _ _ _ _ (ix1 o) (by intro a; match a with | ⟨0, _⟩ => rfl)]

end Cert.KernelIdeal.Gen

end
-- ==== Proof.Conv.lean ====
/- The 3-by-3 convolution as nine taps, and the two pieces of arithmetic the programs differ by: one sum over 3456 entries
   against nine sums over 384, and a folded scale and shift against the batch normalisation as written. -/
module

public import proofs.«01_k».proof.Proof.HostArrays

@[expose] public section

set_option maxRecDepth 16384

noncomputable section

namespace Cert.KernelIdeal.Gen

open Idealize.ShloMosaic Idealize.ShloMosaic.TcCoe Idealize.SL.Sem
open Idealize.ShloMosaic.ValueIdx Idealize.ShloMosaic.StableHlo

/-- The features with a border of one zero on each side of both image axes. -/
def padAt (f : Vec Ideal S8x384x32x32 .f32) (b : Fin 8) (k : Fin 384) (y x : ℕ) : EReal :=
  if h : 1 ≤ y ∧ y < 33 ∧ 1 ≤ x ∧ x < 33 then
    f (ix4 b k (⟨y - 1, by omega⟩ : Fin 32) (⟨x - 1, by omega⟩ : Fin 32))
  else 0

/-- One tap of the convolution: the sum over the input channels. -/
def tap (f : Vec Ideal S8x384x32x32 .f32) (w : Vec Ideal S1024x384x3x3 .f32) (b : Fin 8) (j : Fin 1024) (y x : Fin 32)
    (ky kx : Fin 3) : EReal :=
  ∑ k : Fin 384, w (ix4 j k ky kx) * padAt f b k (y.val + ky.val) (x.val + kx.val)

/-- The convolution: the nine taps added in order from zero. -/
def conv (f : Vec Ideal S8x384x32x32 .f32) (w : Vec Ideal S1024x384x3x3 .f32) (b : Fin 8) (j : Fin 1024) (y x : Fin 32) : EReal :=
  0 + tap f w b j y x 0 0 + tap f w b j y x 0 1 + tap f w b j y x 0 2
    + tap f w b j y x 1 0 + tap f w b j y x 1 1 + tap f w b j y x 1 2
    + tap f w b j y x 2 0 + tap f w b j y x 2 1 + tap f w b j y x 2 2

/-- The zero stored in the buffer is the number zero. -/
theorem bzero_eq : (bzero (F := Ideal) : EReal) = 0 := by
  show Ideal.ofBits .bf16 0x0000#16 = 0
  simp [Ideal.ofBits, Ideal.ieee]

variable (m : (ℓ : Loc nD τ sig) → Buf (Elt Ideal) ℓ)

/-- The middle columns hold the padded features one column to the right of the pixel. -/
theorem midAt_eq (c : Dev nD) (t : Fin cfg0.N) (b : Fin 8) (hb : b.val = t.val) (k : Fin 384) (r Y X : ℕ)
    (hr : r = 32 * (Y + 1) + X) (hX : X < 32) :
    (midAt (F := Ideal) (iblk m c 0 t) r k.val : EReal) = padAt (feat m c) b k Y (X + 1) := by
  unfold midAt padAt
  by_cases h : 1 ≤ Y ∧ Y < 33
  · rw [dif_pos (show 64 ≤ r ∧ r < 1088 ∧ k.val < 384 from ⟨by omega, by omega, k.isLt⟩),
      dif_pos (show 1 ≤ Y ∧ Y < 33 ∧ 1 ≤ X + 1 ∧ X + 1 < 33 from ⟨h.1, h.2, by omega, by omega⟩)]
    refine (iblk0_apply m c t b hb _ _).trans ?_
    refine congrArg (feat m c) ?_
    have e1 : (r - 64) / 32 = Y - 1 := by omega
    have e2 : (r - 64) % 32 = X + 1 - 1 := by omega
    funext a
    apply Fin.ext
    match a with
    | ⟨0, _⟩ => rfl
    | ⟨1, _⟩ => rfl
    | ⟨2, _⟩ => exact e1
    | ⟨3, _⟩ => exact e2
  · rw [dif_neg (by omega), dif_neg (by omega)]
    exact bzero_eq

/-- An entry of the im2col buffer is an entry of the padded features. -/
theorem xcAt_eq (c : Dev nD) (t : Fin cfg0.N) (b : Fin 8) (hb : b.val = t.val) (y x : Fin 32) (ky kx : Fin 3) (k : Fin 384) :
    (xcAt (F := Ideal) (iblk m c 0 t) (32 * y.val + x.val + 32 * (ky.val + 1)) (kx.val * 384 + k.val) : EReal)
    = padAt (feat m c) b k (y.val + ky.val) (x.val + kx.val) := by
  have hy := y.isLt
  have hx := x.isLt
  have hky := ky.isLt
  have hk := k.isLt
  unfold xcAt
  match kx with
  | ⟨0, _⟩ =>
    rw [if_pos (show 0 * 384 + k.val < 384 by omega)]
    by_cases h0 : x.val = 0
    · rw [if_pos (by omega)]
      unfold padAt
      rw [dif_neg (by show ¬ (_ ∧ _ ∧ 1 ≤ x.val + 0 ∧ _); omega)]
      exact bzero_eq
    · rw [if_neg (by omega), show 0 * 384 + k.val = k.val by omega]
      refine (midAt_eq m c t b hb k _ (y.val + ky.val) (x.val - 1) (by omega) (by omega)).trans ?_
      rw [show x.val - 1 + 1 = x.val + 0 by omega]
  | ⟨1, _⟩ =>
    rw [if_neg (show ¬ 1 * 384 + k.val < 384 by omega), if_pos (show 1 * 384 + k.val < 768 by omega),
      show 1 * 384 + k.val - 384 = k.val by omega]
    exact midAt_eq m c t b hb k _ (y.val + ky.val) x.val (by omega) hx
  | ⟨2, _⟩ =>
    rw [if_neg (show ¬ 2 * 384 + k.val < 384 by omega), if_neg (show ¬ 2 * 384 + k.val < 768 by omega)]
    by_cases h0 : x.val = 31
    · rw [if_pos (by omega)]
      unfold padAt
      rw [dif_neg (by show ¬ (_ ∧ _ ∧ _ ∧ x.val + 2 < 33); omega)]
      exact bzero_eq
    · rw [if_neg (by omega), show 2 * 384 + k.val - 768 = k.val by omega]
      exact midAt_eq m c t b hb k _ (y.val + ky.val) (x.val + 1) (by omega) (by omega)

/-- A sum over 3456 terms, as nine sums over 384. -/
theorem sum_3456 (g : Fin 3456 → EReal) :
    ∑ k : Fin 3456, g k = ∑ q : Fin 9, ∑ k : Fin 384, g ⟨q.val * 384 + k.val, by omega⟩ := by
  rw [← Fintype.sum_prod_type']
  refine (Fintype.sum_equiv (finProdFinEquiv (m := 9) (n := 384)) _ _ fun x => ?_).symm
  refine congrArg g (Fin.ext ?_)
  show x.1.val * 384 + x.2.val = x.2.val + 384 * x.1.val
  omega

/-- Nine terms, added in order from zero. -/
theorem sum_9 (h : Fin 9 → EReal) : ∑ q : Fin 9, h q = 0 + h 0 + h 1 + h 2 + h 3 + h 4 + h 5 + h 6 + h 7 + h 8 := by
  simp only [Fin.sum_univ_castSucc, Fin.sum_univ_zero]
  rfl

/-- The kernel's first product at a pixel and a channel is the convolution. -/
theorem kernel_conv (c : Dev nD) (t : Fin cfg0.N) (b : Fin 8) (hb : b.val = t.val) (y x : Fin 32) (j : Fin 1024) :
    (∑ k : Fin 3456, (xcAt (F := Ideal) (iblk m c 0 t) (32 * y.val + x.val + 32 * (k.val / 1152 + 1)) (k.val % 1152) : EReal)
      * (iblk m c 1 t (ix2 k j) : EReal))
    = conv (feat m c) (wconv m c) b j y x := by
  rw [sum_3456]
  have hq : ∀ (ky kx : Fin 3) (q : Fin 9), q.val = ky.val * 3 + kx.val →
      (∑ k : Fin 384, (xcAt (F := Ideal) (iblk m c 0 t)
          (32 * y.val + x.val + 32 * ((q.val * 384 + k.val) / 1152 + 1)) ((q.val * 384 + k.val) % 1152) : EReal)
        * (iblk m c 1 t (ix2 (⟨q.val * 384 + k.val, by omega⟩ : Fin 3456) j) : EReal))
      = tap (feat m c) (wconv m c) b j y x ky kx := by
    intro ky kx q h
    have hky := ky.isLt
    have hkx := kx.isLt
    unfold tap
    refine Finset.sum_congr rfl fun k _ => ?_
    have hk := k.isLt
    have e1 : (q.val * 384 + k.val) / 1152 = ky.val := by omega
    have e2 : (q.val * 384 + k.val) % 1152 = kx.val * 384 + k.val := by omega
    rw [e1, e2, xcAt_eq m c t b hb, mul_comm]
    refine congrArg (fun z : EReal => z * _) ?_
    refine (iblk1_apply m c t _ j).trans (congrArg (wconv m c) (funext fun a => Fin.ext ?_))
    match a with
    | ⟨0, _⟩ => rfl
    | ⟨1, _⟩ => show (q.val * 384 + k.val) % 384 = k.val; omega
    | ⟨2, _⟩ => exact e1
    | ⟨3, _⟩ => show (q.val * 384 + k.val) / 384 % 3 = kx.val; omega
  rw [sum_9]
  unfold conv
  rw [hq 0 0 0 rfl, hq 0 1 1 rfl, hq 0 2 2 rfl, hq 1 0 3 rfl, hq 1 1 4 rfl, hq 1 2 5 rfl, hq 2 0 6 rfl,
    hq 2 1 7 rfl, hq 2 2 8 rfl]

/-- Folding the scale and the shift changes nothing when the scale's factors and the mean are real numbers. -/
theorem fold_bn (x b : EReal) (g r μ : ℝ) :
    x * ((g : EReal) * (r : EReal)) + (b - (μ : EReal) * ((g : EReal) * (r : EReal)))
    = (x - (μ : EReal)) * (r : EReal) * (g : EReal) + b := by
  have hs : ∀ z : EReal, z * (r : EReal) * (g : EReal) = z * ((g * r : ℝ) : EReal) := by
    intro z; rw [mul_assoc, ← EReal.coe_mul, mul_comm r g]
  rw [hs, ← EReal.coe_mul, ← EReal.coe_mul]
  generalize g * r = s
  induction x with
  | coe x =>
    rw [← EReal.coe_sub, ← EReal.coe_mul, ← EReal.coe_mul, sub_mul, sub_eq_add_neg b, ← EReal.coe_neg, add_comm b, ← add_assoc,
      ← EReal.coe_add, sub_eq_add_neg]
  | top =>
    rw [EReal.top_sub_coe]
    rcases lt_trichotomy s 0 with h | h | h
    · rw [EReal.top_mul_coe_of_neg h, EReal.bot_add, EReal.bot_add]
    · subst h; simp
    · rw [EReal.top_mul_coe_of_pos h]
      induction b with
      | bot => simp
      | coe b => rw [← EReal.coe_sub, EReal.top_add_coe, EReal.top_add_coe]
      | top => rw [EReal.top_sub_coe]
  | bot =>
    rw [EReal.bot_sub]
    rcases lt_trichotomy s 0 with h | h | h
    · rw [EReal.bot_mul_coe_of_neg h]
      induction b with
      | bot => simp
      | coe b => rw [← EReal.coe_sub, EReal.top_add_coe, EReal.top_add_coe]
      | top => rw [EReal.top_sub_coe]
    · subst h; simp
    · rw [EReal.bot_mul_coe_of_pos h, EReal.bot_add, EReal.bot_add]

/-- The reciprocal square root of a positive extended real is a real number. -/
theorem rsqrt_real (v : EReal) (hv : 0 < v) : ∃ r : ℝ, Ideal.rsqrt v = (r : EReal) := by
  induction v with
  | bot => exact absurd hv (by simp)
  | top => exact ⟨0, by rw [Ideal.rsqrt_top]; rfl⟩
  | coe v =>
    have hv' : 0 < v := by exact_mod_cast hv
    refine ⟨(Real.sqrt v)⁻¹, ?_⟩
    rw [Ideal.rsqrt_coe, if_neg (by exact not_lt.mpr hv'.le), if_neg hv'.ne']

end Cert.KernelIdeal.Gen

end
-- ==== Proof.Reference.lean ====
/- The reference's result, entry by entry: the convolution, the batch normalisation as written, the leaky ReLU, the second
   layer's sum over the 1024 channels and its bias. -/
module

public import proofs.«01_k».proof.Proof.Conv
public import proofs.«01_k».proof.Proof.Gen.ReferenceIdeal.Read
public import Idealize.ShloMosaic.Lib.KernelVsHost

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Idealize.ShloMosaic.StableHlo Idealize.ShloMosaic.ValueIdx
open Cert.KernelIdeal.Gen (padAt tap conv act epsIdeal)

variable (x0 : (⟨S8x384x32x32, .f32⟩ : BufTy).Contents (Elt Ideal)) (x1 : (⟨S1024x384x3x3, .f32⟩ : BufTy).Contents (Elt Ideal))
variable (x2 x3 x4 x5 : (⟨S1024, .f32⟩ : BufTy).Contents (Elt Ideal))
variable (x6 : (⟨S425x1024x1x1, .f32⟩ : BufTy).Contents (Elt Ideal)) (x7 : (⟨S425, .f32⟩ : BufTy).Contents (Elt Ideal))

/-- The pad's value is the number zero. -/
theorem padValue_apply (i : S_.Idx) : (val_main_call0_v0 (F := Ideal) i : EReal) = 0 := by
  show (((0#32 : BitVec 32).toInt : ℝ) : EReal) = 0
  simp

/-- The padded features. -/
theorem val_main_v0_apply (b : Fin 8) (k : Fin 384) (Y X : Fin 34) :
    (val_main_v0 (F := Ideal) x0 (ix4 b k Y X) : EReal) = padAt x0 b k Y.val X.val := by
  have hY := Y.isLt
  have hX := X.isLt
  unfold val_main_v0 padAt
  by_cases h : 1 ≤ Y.val ∧ Y.val < 33 ∧ 1 ≤ X.val ∧ X.val < 33
  · rw [dif_pos h]
    refine pad_apply_of_inside _ _ _ _ _ _ _ _ _ (fun a => ?_)
    match a with
    | ⟨0, _⟩ => show b.val = 0 + b.val * (0 + 1); omega
    | ⟨1, _⟩ => show k.val = 0 + k.val * (0 + 1); omega
    | ⟨2, _⟩ => show Y.val = 1 + (Y.val - 1) * (0 + 1); omega
    | ⟨3, _⟩ => show X.val = 1 + (X.val - 1) * (0 + 1); omega
  · rw [dif_neg h]
    by_cases hy : 1 ≤ Y.val ∧ Y.val < 33
    · exact (pad_apply_of_not_inside _ _ _ _ _ _ _ _ (3 : Fin 4) (by
        show ¬ (1 ≤ X.val ∧ (X.val - 1) % (0 + 1) = 0 ∧ (X.val - 1) / (0 + 1) < 32)
        rw [Nat.div_one]; omega)).trans (padValue_apply _)
    · exact (pad_apply_of_not_inside _ _ _ _ _ _ _ _ (2 : Fin 4) (by
        show ¬ (1 ≤ Y.val ∧ (Y.val - 1) % (0 + 1) = 0 ∧ (Y.val - 1) / (0 + 1) < 32)
        rw [Nat.div_one]; omega)).trans (padValue_apply _)

/-! ## The nine taps -/

/-- A sum over the input channels of weights times padded features is a tap, when the weights are read at the tap and the
    features at the pixel moved by it. -/
theorem tap_of (b : Fin 8) (j : Fin 1024) (y x : Fin 32) (ky kx : Fin 3)
    (iw : Fin 384 → S1024x384x3x3.Idx) (ip : Fin 384 → S8x384x34x34.Idx)
    (hw : ∀ k, (iw k 0).val = (j.val * 384 + k.val) / 384 ∧ (iw k 1).val = (j.val * 384 + k.val) / 1 % 384
      ∧ (iw k 2).val = ky.val ∧ (iw k 3).val = kx.val)
    (hp : ∀ k, (ip k 0).val = b.val ∧ (ip k 1).val = k.val ∧ (ip k 2).val = y.val + ky.val ∧ (ip k 3).val = x.val + kx.val) :
    (∑ k : Fin 384, (x1 (iw k) : EReal) * (val_main_v0 (F := Ideal) x0 (ip k) : EReal)) = tap x0 x1 b j y x ky kx := by
  have hy := y.isLt
  have hx := x.isLt
  have hky := ky.isLt
  have hkx := kx.isLt
  unfold tap
  refine Finset.sum_congr rfl fun k _ => ?_
  have hj := j.isLt
  have hk := k.isLt
  obtain ⟨w0, w1, w2, w3⟩ := hw k
  obtain ⟨p0, p1, p2, p3⟩ := hp k
  have ew : iw k = ix4 j k ky kx := funext fun a => Fin.ext (by
    match a with
    | ⟨0, _⟩ => refine w0.trans ?_; show _ = j.val; omega
    | ⟨1, _⟩ => refine w1.trans ?_; show _ = k.val; omega
    | ⟨2, _⟩ => exact w2
    | ⟨3, _⟩ => exact w3)
  have ep : ip k = ix4 b k (⟨y.val + ky.val, by omega⟩ : Fin 34) (⟨x.val + kx.val, by omega⟩ : Fin 34) :=
    funext fun a => Fin.ext (by
      match a with
      | ⟨0, _⟩ => exact p0
      | ⟨1, _⟩ => exact p1
      | ⟨2, _⟩ => exact p2
      | ⟨3, _⟩ => exact p3)
  rw [ew, ep, val_main_v0_apply]

theorem tap_00 (b : Fin 8) (j : Fin 1024) (y x : Fin 32) :
    (val_main_v6 (F := Ideal) x0 x1 (ix4 b j y x) : EReal) = tap x0 x1 b j y x 0 0 := by
  rw [val_main_v6_apply, val_main_v5_apply]
  simp only [val_main_v4_apply, val_main_v3_apply, val_main_v2_apply]
  exact tap_of x0 x1 b j y x 0 0 _ _ (fun _ => ⟨rfl, rfl, rfl, rfl⟩) fun _ => ⟨rfl, rfl, rfl, rfl⟩

theorem tap_01 (b : Fin 8) (j : Fin 1024) (y x : Fin 32) :
    (val_main_v12 (F := Ideal) x0 x1 (ix4 b j y x) : EReal) = tap x0 x1 b j y x 0 1 := by
  rw [val_main_v12_apply, val_main_v11_apply]
  simp only [val_main_v10_apply, val_main_v9_apply, val_main_v8_apply]
  exact tap_of x0 x1 b j y x 0 1 _ _ (fun _ => ⟨rfl, rfl, rfl, rfl⟩) fun _ => ⟨rfl, rfl, rfl, Nat.add_comm _ _⟩

theorem tap_02 (b : Fin 8) (j : Fin 1024) (y x : Fin 32) :
    (val_main_v18 (F := Ideal) x0 x1 (ix4 b j y x) : EReal) = tap x0 x1 b j y x 0 2 := by
  rw [val_main_v18_apply, val_main_v17_apply]
  simp only [val_main_v16_apply, val_main_v15_apply, val_main_v14_apply]
  exact tap_of x0 x1 b j y x 0 2 _ _ (fun _ => ⟨rfl, rfl, rfl, rfl⟩) fun _ => ⟨rfl, rfl, rfl, Nat.add_comm _ _⟩

theorem tap_10 (b : Fin 8) (j : Fin 1024) (y x : Fin 32) :
    (val_main_v24 (F := Ideal) x0 x1 (ix4 b j y x) : EReal) = tap x0 x1 b j y x 1 0 := by
  rw [val_main_v24_apply, val_main_v23_apply]
  simp only [val_main_v22_apply, val_main_v21_apply, val_main_v20_apply]
  exact tap_of x0 x1 b j y x 1 0 _ _ (fun _ => ⟨rfl, rfl, rfl, rfl⟩) fun _ => ⟨rfl, rfl, Nat.add_comm _ _, rfl⟩

theorem tap_11 (b : Fin 8) (j : Fin 1024) (y x : Fin 32) :
    (val_main_v30 (F := Ideal) x0 x1 (ix4 b j y x) : EReal) = tap x0 x1 b j y x 1 1 := by
  rw [val_main_v30_apply, val_main_v29_apply]
  simp only [val_main_v28_apply, val_main_v27_apply, val_main_v26_apply]
  exact tap_of x0 x1 b j y x 1 1 _ _ (fun _ => ⟨rfl, rfl, rfl, rfl⟩) fun _ => ⟨rfl, rfl, Nat.add_comm _ _, Nat.add_comm _ _⟩

theorem tap_12 (b : Fin 8) (j : Fin 1024) (y x : Fin 32) :
    (val_main_v36 (F := Ideal) x0 x1 (ix4 b j y x) : EReal) = tap x0 x1 b j y x 1 2 := by
  rw [val_main_v36_apply, val_main_v35_apply]
  simp only [val_main_v34_apply, val_main_v33_apply, val_main_v32_apply]
  exact tap_of x0 x1 b j y x 1 2 _ _ (fun _ => ⟨rfl, rfl, rfl, rfl⟩) fun _ => ⟨rfl, rfl, Nat.add_comm _ _, Nat.add_comm _ _⟩

theorem tap_20 (b : Fin 8) (j : Fin 1024) (y x : Fin 32) :
    (val_main_v42 (F := Ideal) x0 x1 (ix4 b j y x) : EReal) = tap x0 x1 b j y x 2 0 := by
  rw [val_main_v42_apply, val_main_v41_apply]
  simp only [val_main_v40_apply, val_main_v39_apply, val_main_v38_apply]
  exact tap_of x0 x1 b j y x 2 0 _ _ (fun _ => ⟨rfl, rfl, rfl, rfl⟩) fun _ => ⟨rfl, rfl, Nat.add_comm _ _, rfl⟩

theorem tap_21 (b : Fin 8) (j : Fin 1024) (y x : Fin 32) :
    (val_main_v48 (F := Ideal) x0 x1 (ix4 b j y x) : EReal) = tap x0 x1 b j y x 2 1 := by
  rw [val_main_v48_apply, val_main_v47_apply]
  simp only [val_main_v46_apply, val_main_v45_apply, val_main_v44_apply]
  exact tap_of x0 x1 b j y x 2 1 _ _ (fun _ => ⟨rfl, rfl, rfl, rfl⟩) fun _ => ⟨rfl, rfl, Nat.add_comm _ _, Nat.add_comm _ _⟩

theorem tap_22 (b : Fin 8) (j : Fin 1024) (y x : Fin 32) :
    (val_main_v54 (F := Ideal) x0 x1 (ix4 b j y x) : EReal) = tap x0 x1 b j y x 2 2 := by
  rw [val_main_v54_apply, val_main_v53_apply]
  simp only [val_main_v52_apply, val_main_v51_apply, val_main_v50_apply]
  exact tap_of x0 x1 b j y x 2 2 _ _ (fun _ => ⟨rfl, rfl, rfl, rfl⟩) fun _ => ⟨rfl, rfl, Nat.add_comm _ _, Nat.add_comm _ _⟩

/-- The nine taps added: the convolution. -/
theorem val_conv (b : Fin 8) (j : Fin 1024) (y x : Fin 32) :
    (val_main_v55 (F := Ideal) x0 x1 (ix4 b j y x) : EReal) = conv x0 x1 b j y x := by
  have h1 : (val_main_v1 (F := Ideal) (ix4 b j y x) : EReal) = 0 := by
    rw [val_main_v1_apply, val_main_cst_apply]
    exact Ideal.ofBits_zero_f32
  have h7 : (val_main_v7 (F := Ideal) x0 x1 (ix4 b j y x) : EReal) = 0 + tap x0 x1 b j y x 0 0 :=
    congrArg₂ (fun u v : EReal => u + v) h1 (tap_00 x0 x1 b j y x)
  have h13 : (val_main_v13 (F := Ideal) x0 x1 (ix4 b j y x) : EReal) = 0 + tap x0 x1 b j y x 0 0 + tap x0 x1 b j y x 0 1 :=
    congrArg₂ (fun u v : EReal => u + v) h7 (tap_01 x0 x1 b j y x)
  have h19 : (val_main_v19 (F := Ideal) x0 x1 (ix4 b j y x) : EReal) = 0 + tap x0 x1 b j y x 0 0 + tap x0 x1 b j y x 0 1 + tap x0 x1 b j y x 0 2 :=
    congrArg₂ (fun u v : EReal => u + v) h13 (tap_02 x0 x1 b j y x)
  have h25 : (val_main_v25 (F := Ideal) x0 x1 (ix4 b j y x) : EReal) = 0 + tap x0 x1 b j y x 0 0 + tap x0 x1 b j y x 0 1 + tap x0 x1 b j y x 0 2 + tap x0 x1 b j y x 1 0 :=
    congrArg₂ (fun u v : EReal => u + v) h19 (tap_10 x0 x1 b j y x)
  have h31 : (val_main_v31 (F := Ideal) x0 x1 (ix4 b j y x) : EReal) = 0 + tap x0 x1 b j y x 0 0 + tap x0 x1 b j y x 0 1 + tap x0 x1 b j y x 0 2 + tap x0 x1 b j y x 1 0 + tap x0 x1 b j y x 1 1 :=
    congrArg₂ (fun u v : EReal => u + v) h25 (tap_11 x0 x1 b j y x)
  have h37 : (val_main_v37 (F := Ideal) x0 x1 (ix4 b j y x) : EReal) = 0 + tap x0 x1 b j y x 0 0 + tap x0 x1 b j y x 0 1 + tap x0 x1 b j y x 0 2 + tap x0 x1 b j y x 1 0 + tap x0 x1 b j y x 1 1 + tap x0 x1 b j y x 1 2 :=
    congrArg₂ (fun u v : EReal => u + v) h31 (tap_12 x0 x1 b j y x)
  have h43 : (val_main_v43 (F := Ideal) x0 x1 (ix4 b j y x) : EReal) = 0 + tap x0 x1 b j y x 0 0 + tap x0 x1 b j y x 0 1 + tap x0 x1 b j y x 0 2 + tap x0 x1 b j y x 1 0 + tap x0 x1 b j y x 1 1 + tap x0 x1 b j y x 1 2 + tap x0 x1 b j y x 2 0 :=
    congrArg₂ (fun u v : EReal => u + v) h37 (tap_20 x0 x1 b j y x)
  have h49 : (val_main_v49 (F := Ideal) x0 x1 (ix4 b j y x) : EReal) = 0 + tap x0 x1 b j y x 0 0 + tap x0 x1 b j y x 0 1 + tap x0 x1 b j y x 0 2 + tap x0 x1 b j y x 1 0 + tap x0 x1 b j y x 1 1 + tap x0 x1 b j y x 1 2 + tap x0 x1 b j y x 2 0 + tap x0 x1 b j y x 2 1 :=
    congrArg₂ (fun u v : EReal => u + v) h43 (tap_21 x0 x1 b j y x)
  exact congrArg₂ (fun u v : EReal => u + v) h49 (tap_22 x0 x1 b j y x)

/-! ## The normalisation, the activation and the second layer -/

/-- A channel's normalised value, the batch normalisation as written. -/
def normed (b : Fin 8) (j : Fin 1024) (y x : Fin 32) : EReal :=
  (conv x0 x1 b j y x - (x4 (ix1 j) : EReal)) * Ideal.rsqrt ((x5 (ix1 j) : EReal) + epsIdeal) * (x2 (ix1 j) : EReal) + (x3 (ix1 j) : EReal)

/-- The reference's normalised array. -/
theorem val_normed (b : Fin 8) (j : Fin 1024) (y x : Fin 32) :
    (val_main_v70 (F := Ideal) x0 x1 x2 x3 x4 x5 (ix4 b j y x) : EReal) = normed x0 x1 x2 x3 x4 x5 b j y x := by
  rw [val_main_v70_apply, val_main_v67_apply, val_main_v64_apply, val_main_v58_apply, val_conv, val_main_v57_apply,
    val_main_v56_apply, val_main_v63_apply, val_main_v62_apply, val_main_v61_apply, val_main_v59_apply, val_main_v60_apply,
    val_main_v66_apply, val_main_v65_apply, val_main_v69_apply, val_main_v68_apply]
  have hi : ∀ i : S1024.Idx, (i 0).val = j.val → i = ix1 j := fun i h => funext fun a => Fin.ext (by
    match a with
    | ⟨0, _⟩ => exact h)
  rw [hi (idx_main_v56 _) rfl, hi (idx_main_v59 _) rfl, hi (idx_main_v65 _) rfl, hi (idx_main_v68 _) rfl]
  rfl

/-- The reference's activated array. -/
theorem val_act (b : Fin 8) (j : Fin 1024) (y x : Fin 32) :
    (val_main_v75 (F := Ideal) x0 x1 x2 x3 x4 x5 (ix4 b j y x) : EReal) = act (normed x0 x1 x2 x3 x4 x5 b j y x) := by
  rw [val_main_v75_apply, val_main_v72_apply, val_main_v74_apply, val_main_v71_apply, val_main_v73_apply, val_normed]
  rfl

/-- The reference's result. -/
theorem val_result (b : Fin 8) (y x : Fin 32) (o : Fin 425) :
    (val_main_v82 (F := Ideal) x0 x1 x2 x3 x4 x5 x6 x7 (ix4 b y x o) : EReal)
    = (∑ j : Fin 1024, (x6 (ix4 o j (0 : Fin 1) (0 : Fin 1)) : EReal) * act (normed x0 x1 x2 x3 x4 x5 b j y x)) + (x7 (ix1 o) : EReal) := by
  rw [val_main_v82_apply, val_main_v81_apply, val_main_v78_apply, val_main_v77_apply, val_main_v80_apply, val_main_v79_apply]
  refine congrArg₂ (fun u v : EReal => u + v) (Finset.sum_congr rfl fun j _ => ?_) (congrArg x7 (funext fun a => Fin.ext ?_))
  · rw [val_main_v76_apply]
    have ho := o.isLt
    have hj := j.isLt
    refine congrArg₂ (fun u v : EReal => u * v) (congrArg x6 (funext fun a => Fin.ext ?_))
      ((congrArg (val_main_v75 (F := Ideal) x0 x1 x2 x3 x4 x5) (funext fun a => Fin.ext ?_)).trans (val_act x0 x1 x2 x3 x4 x5 b j y x))
    · match a with
      | ⟨0, _⟩ => show (o.val * 1024 + j.val) / 1024 = o.val; omega
      | ⟨1, _⟩ => show (o.val * 1024 + j.val) / 1 % 1024 = j.val; omega
      | ⟨2, _⟩ => rfl
      | ⟨3, _⟩ => rfl
    · match a with
      | ⟨0, _⟩ => rfl
      | ⟨1, _⟩ => rfl
      | ⟨2, _⟩ => rfl
      | ⟨3, _⟩ => rfl
  · match a with
    | ⟨0, _⟩ => rfl

end Cert.ReferenceIdeal.Read

end
-- ==== Proof.Equal.lean ====
/- The two programs' results are equal, entry by entry: the precondition read as real scales and means, the kernel's
   result in the reference's form, and the equality of the two arrays. -/
module

public import proofs.«01_k».proof.Defs
public import proofs.«01_k».proof.Proof.Reference

@[expose] public section

set_option maxRecDepth 16384

noncomputable section

namespace Cert.KernelIdeal.Gen

open Idealize.ShloMosaic Idealize.ShloMosaic.TcCoe Idealize.SL.Sem
open Idealize.ShloMosaic.ValueIdx Idealize.ShloMosaic.StableHlo
open Cert.ReferenceIdeal.Read (normed val_main_v82 val_result)

/-- The side condition the precondition's operations take. -/
theorem preFacts : Cert.Pre_statistics_finite.Facts := ⟨by decide⟩

/-- The bit pattern of the infinite constant is the top element. -/
theorem inf_eq : Ideal.ofBits .f32 0x7F800000#32 = ⊤ := by
  simp [Ideal.ofBits, Ideal.ieee]

/-- An extended real whose absolute value is below the top element is a real number. -/
theorem real_of_abs (z : EReal) (h : max z (-z) < ⊤) : ∃ r : ℝ, z = (r : EReal) := by
  induction z with
  | bot => simp at h
  | coe r => exact ⟨r, rfl⟩
  | top => simp at h

/-- The precondition at one channel, from the word the predicate computes there. -/
theorem pre_channel (g μ v : EReal)
    (h : IntOp.andi (IntOp.andi (Ideal.cmp .olt (max g (-g)) (Ideal.ofBits .f32 0x7F800000#32))
        (Ideal.cmp .olt (max μ (-μ)) (Ideal.ofBits .f32 0x7F800000#32)))
        (Ideal.cmp .ogt (v + epsIdeal) (Ideal.ofBits .f32 0x00000000#32)) = 1#1) :
    (∃ r : ℝ, g = (r : EReal)) ∧ (∃ r : ℝ, μ = (r : EReal)) ∧ ∃ r : ℝ, Ideal.rsqrt (v + epsIdeal) = (r : EReal) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  rw [inf_eq, Ideal.ofBits_zero_f32] at h
  simp only [Ideal.cmp, andi_ofBool, ofBool_eq_one, Bool.and_eq_true, decide_eq_true_eq] at h
  exact ⟨real_of_abs g h.1.1, real_of_abs μ h.1.2, rsqrt_real _ h.2⟩

variable (m : (ℓ : Loc nD τ sig) → Buf (Elt Ideal) ℓ)

/-- The precondition on the launch memory makes every channel's scale, mean and reciprocal square root real. -/
theorem real_of_pre (h : Cert.Pre_KernelIdeal_statistics_finite (hPre_statistics_finite := preFacts) m) (c : Dev nD) (j : Fin 1024) :
    (∃ r : ℝ, (gam m c (ix1 j) : EReal) = (r : EReal)) ∧ (∃ r : ℝ, (mea m c (ix1 j) : EReal) = (r : EReal))
      ∧ ∃ r : ℝ, rs m c j = (r : EReal) := by
  have e := congrFun (h c) (ix1 j)
  exact pre_channel _ _ _ e

/-- The kernel's result at an index, in the reference's form. -/
theorem result_apply (h : Cert.Pre_KernelIdeal_statistics_finite (hPre_statistics_finite := preFacts) m) (c : Dev nD)
    (b : Fin 8) (y x : Fin 32) (o : Fin 425) :
    (result m c (ix4 b y x o) : EReal)
    = (∑ j : Fin 1024, (wout m c (ix4 o j (0 : Fin 1) (0 : Fin 1)) : EReal)
        * act (normed (feat m c) (wconv m c) (gam m c) (bet m c) (mea m c) (vari m c) b j y x)) + (bout m c (ix1 o) : EReal) := by
  have hy := y.isLt
  have hx := x.isLt
  unfold result
  rw [shapeCast_apply _ _ _ (ix3 b (⟨32 * y.val + x.val, by omega⟩ : Fin 1024) o) (by
    rw [Shape.rowMajor_val_four, Shape.rowMajor_val_three]
    show (b.val * 1024 + (32 * y.val + x.val)) * 425 + o.val = ((b.val * 32 + y.val) * 32 + x.val) * 425 + o.val
    omega)]
  have ht : b.val < cfg0.N := lt_of_lt_of_eq b.isLt (show 8 = cfg0.N from N_0.symm)
  show (blkAt m c ⟨b.val, ht⟩ (ix3 (0 : Fin 1) (⟨32 * y.val + x.val, by omega⟩ : Fin 1024) o) : EReal) = _
  unfold blkAt
  refine (outBlk_apply _ _ _ _ _ _ _ _).trans ?_
  refine congrArg₂ (fun u v : EReal => u + v) (Finset.sum_congr rfl fun j _ => ?_) (iblk5_apply m c _ o)
  rw [mul_comm]
  refine congrArg₂ (fun u v : EReal => u * v) (iblk4_apply m c _ j o) (congrArg act ?_)
  refine (congrArg₂ (fun u v : EReal => u + v) (congrArg₂ (fun u v : EReal => u * v)
    (kernel_conv m c ⟨b.val, ht⟩ b rfl y x j) (iblk2_apply m c ⟨b.val, ht⟩ j)) (iblk3_apply m c ⟨b.val, ht⟩ j)).trans ?_
  obtain ⟨⟨g, hg⟩, ⟨μ, hμ⟩, ⟨r, hr⟩⟩ := real_of_pre m h c j
  have hr' : Ideal.rsqrt ((vari m c (ix1 j) : EReal) + epsIdeal) = (r : EReal) := hr
  unfold normed
  dsimp only
  rw [hr', hr, hg, hμ]
  exact fold_bn _ _ g r μ

/-- The two results are the same array. -/
theorem result_eq (h : Cert.Pre_KernelIdeal_statistics_finite (hPre_statistics_finite := preFacts) m) (c : Dev nD) :
    result m c = (val_main_v82 (F := Ideal) (feat m c) (wconv m c) (gam m c) (bet m c) (mea m c) (vari m c) (wout m c) (bout m c)
      : Vec Ideal S8x32x32x425 .f32) := by
  funext i
  have hi : i = ix4 (⟨(i 0).val, (i 0).isLt⟩ : Fin 8) (⟨(i 1).val, (i 1).isLt⟩ : Fin 32) (⟨(i 2).val, (i 2).isLt⟩ : Fin 32)
      (⟨(i 3).val, (i 3).isLt⟩ : Fin 425) := funext fun a => Fin.ext (by
    match a with
    | ⟨0, _⟩ => rfl
    | ⟨1, _⟩ => rfl
    | ⟨2, _⟩ => rfl
    | ⟨3, _⟩ => rfl)
  rw [hi]
  exact (result_apply m h c _ _ _ _).trans (val_result _ _ _ _ _ _ _ _ _ _ _ _).symm

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's frame: no operation writes an argument, and it declares no semaphore. -/
theorem frame_reference : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩)
    (Cert.ReferenceIdeal.Value.run (F := Ideal) m g)

/-- The idealised kernel and the idealised reference end with the same result, and leave their arguments unchanged. -/
theorem equal : Cert.algebraic_KernelIdeal_ReferenceIdeal_pre_statistics_finite (hKernelIdeal := Cert.KernelIdeal.Gen.facts)
    (hReferenceIdeal := Cert.ReferenceIdeal.Gen.facts) (hPre_statistics_finite := Cert.KernelIdeal.Gen.preFacts) := by
  intro m g m' g' hpre hargs
  refine ⟨fun c => Cert.KernelIdeal.Gen.result m c, ?_, ?_⟩
  · exact (θ_run (Cert.KernelIdeal.defs (F := Ideal)) _ _).mono (fun _ h c => ⟨h.1 c, h.2 c⟩)
      (θ_run_and (Cert.KernelIdeal.Gen.run m g) (Cert.KernelIdeal.Gen.unchanged m g))
  · refine (θ_run (Cert.ReferenceIdeal.defs (F := Ideal)) _ _).mono (fun _ h c => ⟨(h c).1.trans ?_, (h c).2⟩)
      (Cert.ReferenceIdeal.Value.run (F := Ideal) m' g')
    obtain ⟨h0, h1, h2, h3, h4, h5, h6, h7⟩ := hargs c
    rw [Cert.ReferenceIdeal.Read.val_main_v82_eq, h0, h1, h2, h3, h4, h5, h6, h7]
    exact (Cert.KernelIdeal.Gen.result_eq m hpre c).symm

/-- Everything the certificate claims. -/
theorem claim : Cert.Claim :=
  ⟨Cert.Kernel.Gen.facts, Cert.KernelIdeal.Gen.facts, Cert.ReferenceIdeal.Gen.facts, Cert.KernelIdeal.Gen.preFacts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    equal⟩

end Cert.Proof

end
